-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_tie_decides [hPre_no_tie_decides : Cert.Pre_no_tie_decides.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie_decides.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie_decides [hPre_no_tie_decides : Cert.Pre_no_tie_decides.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie_decides.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_no_tie_decides [hKernelIdeal : Cert.KernelIdeal.Facts] [hPre_no_tie_decides : Cert.Pre_no_tie_decides.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_tie_decides m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_no_tie_decides [hReferenceIdeal : Cert.ReferenceIdeal.Facts] [hPre_no_tie_decides : Cert.Pre_no_tie_decides.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie_decides m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_no_tie_decides [hKernelIdeal : Cert.KernelIdeal.Facts] [hReferenceIdeal : Cert.ReferenceIdeal.Facts] [hPre_no_tie_decides : Cert.Pre_no_tie_decides.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_tie_decides m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_no_tie_decides : Cert.Pre_no_tie_decides.Facts),
    quiescent_Kernel (hKernel := hKernel)
    ∧ quiescent_KernelIdeal (hKernelIdeal := hKernelIdeal)
    ∧ quiescent_KernelIdeal_pre_no_tie_decides (hKernelIdeal := hKernelIdeal) (hPre_no_tie_decides := hPre_no_tie_decides)
    ∧ quiescent_ReferenceIdeal (hReferenceIdeal := hReferenceIdeal)
    ∧ quiescent_ReferenceIdeal_pre_no_tie_decides (hReferenceIdeal := hReferenceIdeal) (hPre_no_tie_decides := hPre_no_tie_decides)
    ∧ preserves_Kernel_KernelIdeal
    ∧ algebraic_KernelIdeal_ReferenceIdeal_pre_no_tie_decides (hKernelIdeal := hKernelIdeal) (hReferenceIdeal := hReferenceIdeal) (hPre_no_tie_decides := hPre_no_tie_decides)
-- ==== Pre_no_tie_decides.lean ====
abbrev S4x8192x128 : Shape := ⟨3, ![4, 8192, 128]⟩
abbrev S64x128 : Shape := ⟨2, ![64, 128]⟩
abbrev S64 : Shape := ⟨1, ![64]⟩
abbrev S22x64 : Shape := ⟨2, ![22, 64]⟩
abbrev S22 : Shape := ⟨1, ![22]⟩
abbrev S128x64 : Shape := ⟨2, ![128, 64]⟩
abbrev S4x8192x64 : Shape := ⟨3, ![4, 8192, 64]⟩
abbrev S1x1x64 : Shape := ⟨3, ![1, 1, 64]⟩
abbrev S_ : Shape := ⟨0, ![]⟩
abbrev S64x22 : Shape := ⟨2, ![64, 22]⟩
abbrev S4x8192x22 : Shape := ⟨3, ![4, 8192, 22]⟩
abbrev S1x1x22 : Shape := ⟨3, ![1, 1, 22]⟩
abbrev S4x8192x9 : Shape := ⟨3, ![4, 8192, 9]⟩
abbrev S4x8192x1 : Shape := ⟨3, ![4, 8192, 1]⟩
abbrev S4x8192x8 : Shape := ⟨3, ![4, 8192, 8]⟩

class Facts : Prop where
  transposes_S64x128_S128x64_1_0 : S64x128.Transposes [1, 0] S128x64
  bcast_S64_S1x1x64_2 : S64.BroadcastsInDim S1x1x64 (![2] : Fin 1 → Fin S1x1x64.rank)
  bcast_S1x1x64_S4x8192x64_0_1_2 : S1x1x64.BroadcastsInDim S4x8192x64 (![0, 1, 2] : Fin 3 → Fin S4x8192x64.rank)
  bcast_S_S4x8192x64 : S_.BroadcastsInDim S4x8192x64 (![] : Fin 0 → Fin S4x8192x64.rank)
  transposes_S22x64_S64x22_1_0 : S22x64.Transposes [1, 0] S64x22
  bcast_S22_S1x1x22_2 : S22.BroadcastsInDim S1x1x22 (![2] : Fin 1 → Fin S1x1x22.rank)
  bcast_S1x1x22_S4x8192x22_0_1_2 : S1x1x22.BroadcastsInDim S4x8192x22 (![0, 1, 2] : Fin 3 → Fin S4x8192x22.rank)
  bcast_S_S4x8192x22 : S_.BroadcastsInDim S4x8192x22 (![] : Fin 0 → Fin S4x8192x22.rank)
  sliceFits_S4x8192x22_S4x8192x9 : S4x8192x22.Slices (fun _ => 0) S4x8192x9
  slices_S4x8192x9_S4x8192x1_0_0_8 : S4x8192x9.Slices ![0, 0, 8] S4x8192x1
  bcast_S_S4x8192x1 : S_.BroadcastsInDim S4x8192x1 (![] : Fin 0 → Fin S4x8192x1.rank)
  slices_S4x8192x9_S4x8192x8_0_0_0 : S4x8192x9.Slices ![0, 0, 0] S4x8192x8
  slices_S4x8192x9_S4x8192x8_0_0_1 : S4x8192x9.Slices ![0, 0, 1] S4x8192x8
  bcast_S4x8192x1_S4x8192x8_0_1_2 : S4x8192x1.BroadcastsInDim S4x8192x8 (![0, 1, 2] : Fin 3 → Fin S4x8192x8.rank)
  dot_S4x8192x128_S128x64_S4x8192x64_2_0_01_1_n_n_wf : DotDims.WF S4x8192x128 S128x64 S4x8192x64 [2] [0] [0, 1] [1] [] []
  dot_S4x8192x64_S64x22_S4x8192x22_2_0_01_1_n_n_wf : DotDims.WF S4x8192x64 S64x22 S4x8192x22 [2] [0] [0, 1] [1] [] []

variable [Facts]

def dot_S4x8192x128_S128x64_S4x8192x64_2_0_01_1_n_n : DotDims S4x8192x128 S128x64 S4x8192x64 where
  lhsContracting := [2]
  rhsContracting := [0]
  lhsNonContracting := [0, 1]
  rhsNonContracting := [1]
  lhsBatch := []
  rhsBatch := []
  wf := dot_S4x8192x128_S128x64_S4x8192x64_2_0_01_1_n_n_wf
def dot_S4x8192x64_S64x22_S4x8192x22_2_0_01_1_n_n : DotDims S4x8192x64 S64x22 S4x8192x22 where
  lhsContracting := [2]
  rhsContracting := [0]
  lhsNonContracting := [0, 1]
  rhsNonContracting := [1]
  lhsBatch := []
  rhsBatch := []
  wf := dot_S4x8192x64_S64x22_S4x8192x22_2_0_01_1_n_n_wf
def fn_part1 {F : FTy → Type} [FloatOps F] (main_v16 : IVec S4x8192x1 1) (main_v17 : FVec F S4x8192x8 .f32) (main_v18 : FVec F S4x8192x8 .f32) : IVec S4x8192x8 1 :=
  let main_v19 : IVec S4x8192x8 1 := cmpf .ogt main_v17 main_v18
  let main_v20 : IVec S4x8192x8 1 := broadcastInDim S4x8192x8 ![0, 1, 2] bcast_S4x8192x1_S4x8192x8_0_1_2 main_v16
  let main_v21 : IVec S4x8192x8 1 := ori main_v20 main_v19
  main_v21

def fn {F : FTy → Type} [FloatOps F] (main_arg0 : FVec F S4x8192x128 .f32) (main_arg1 : FVec F S64x128 .f32) (main_arg2 : FVec F S64 .f32) (main_arg3 : FVec F S22x64 .f32) (main_arg4 : FVec F S22 .f32) : IVec S4x8192x8 1 :=
  let main_v0 : FVec F S128x64 .f32 := (transpose S128x64 [1, 0] · transposes_S64x128_S128x64_1_0) main_arg1
  let main_v1 : FVec F S4x8192x64 .f32 := (fun l r => Host.dotGeneral dot_S4x8192x128_S128x64_S4x8192x64_2_0_01_1_n_n none l r) main_arg0 main_v0
  let main_v2 : FVec F S1x1x64 .f32 := broadcastInDim S1x1x64 ![2] bcast_S64_S1x1x64_2 main_arg2
  let main_v3 : FVec F S4x8192x64 .f32 := broadcastInDim S4x8192x64 ![0, 1, 2] bcast_S1x1x64_S4x8192x64_0_1_2 main_v2
  let main_v4 : FVec F S4x8192x64 .f32 := addf main_v1 main_v3
  let main_cst : FVec F S_ .f32 := constant S_ .f32 0x00000000#32
  let main_v5 : FVec F S4x8192x64 .f32 := broadcastInDim S4x8192x64 ![] bcast_S_S4x8192x64 main_cst
  let main_v6 : FVec F S4x8192x64 .f32 := maximumf main_v4 main_v5
  let main_v7 : FVec F S64x22 .f32 := (transpose S64x22 [1, 0] · transposes_S22x64_S64x22_1_0) main_arg3
  let main_v8 : FVec F S4x8192x22 .f32 := (fun l r => Host.dotGeneral dot_S4x8192x64_S64x22_S4x8192x22_2_0_01_1_n_n none l r) main_v6 main_v7
  let main_v9 : FVec F S1x1x22 .f32 := broadcastInDim S1x1x22 ![2] bcast_S22_S1x1x22_2 main_arg4
  let main_v10 : FVec F S4x8192x22 .f32 := broadcastInDim S4x8192x22 ![0, 1, 2] bcast_S1x1x22_S4x8192x22_0_1_2 main_v9
  let main_v11 : FVec F S4x8192x22 .f32 := addf main_v8 main_v10
  let main_cst_0 : FVec F S_ .f32 := constant S_ .f32 0x00000000#32
  let main_v12 : FVec F S4x8192x22 .f32 := broadcastInDim S4x8192x22 ![] bcast_S_S4x8192x22 main_cst_0
  let main_v13 : FVec F S4x8192x22 .f32 := maximumf main_v11 main_v12
  let main_values : FVec F S4x8192x9 .f32 := (fun x => (Host.topK S4x8192x9 2 (FloatOps.cmpfTotal .gt) x sliceFits_S4x8192x22_S4x8192x9).1) main_v13
  let main_indices : IVec S4x8192x9 32 := (fun x => (Host.topK S4x8192x9 2 (FloatOps.cmpfTotal .gt) x sliceFits_S4x8192x22_S4x8192x9).2) main_v13
  let main_v14 : FVec F S4x8192x1 .f32 := (extractStridedSlice S4x8192x1 ![0, 0, 8] · slices_S4x8192x9_S4x8192x1_0_0_8) main_values
  let main_cst_1 : FVec F S_ .f32 := constant S_ .f32 0x00000000#32
  let main_v15 : FVec F S4x8192x1 .f32 := broadcastInDim S4x8192x1 ![] bcast_S_S4x8192x1 main_cst_1
  let main_v16 : IVec S4x8192x1 1 := cmpf .oeq main_v14 main_v15
  let main_v17 : FVec F S4x8192x8 .f32 := (extractStridedSlice S4x8192x8 ![0, 0, 0] · slices_S4x8192x9_S4x8192x8_0_0_0) main_values
  let main_v18 : FVec F S4x8192x8 .f32 := (extractStridedSlice S4x8192x8 ![0, 0, 1] · slices_S4x8192x9_S4x8192x8_0_0_1) main_values
  fn_part1 (F := F) main_v16 main_v17 main_v18
-- ==== Kernel.lean ====
abbrev S4x8192x128 : Shape := ⟨3, ![4, 8192, 128]⟩
abbrev S64x128 : Shape := ⟨2, ![64, 128]⟩
abbrev S64 : Shape := ⟨1, ![64]⟩
abbrev S22x64 : Shape := ⟨2, ![22, 64]⟩
abbrev S22 : Shape := ⟨1, ![22]⟩
abbrev S4x22x8192 : Shape := ⟨3, ![4, 22, 8192]⟩
abbrev S24x64 : Shape := ⟨2, ![24, 64]⟩
abbrev S24x1 : Shape := ⟨2, ![24, 1]⟩
abbrev S4 : Shape := ⟨1, ![4]⟩
abbrev S1x64 : Shape := ⟨2, ![1, 64]⟩
abbrev S1x22 : Shape := ⟨2, ![1, 22]⟩
abbrev S22x1 : Shape := ⟨2, ![22, 1]⟩
abbrev S1 : Shape := ⟨1, ![1]⟩
abbrev S_ : Shape := ⟨0, ![]⟩
abbrev S1x8192x128 : Shape := ⟨3, ![1, 8192, 128]⟩
abbrev S8192x128 : Shape := ⟨2, ![8192, 128]⟩
abbrev S1x1024x128 : Shape := ⟨3, ![1, 1024, 128]⟩
abbrev S1024x128 : Shape := ⟨2, ![1024, 128]⟩
abbrev S1024x64 : Shape := ⟨2, ![1024, 64]⟩
abbrev S24x1024 : Shape := ⟨2, ![24, 1024]⟩
abbrev S8x1024 : Shape := ⟨2, ![8, 1024]⟩
abbrev S1x8x1024 : Shape := ⟨3, ![1, 8, 1024]⟩
abbrev S6x1024 : Shape := ⟨2, ![6, 1024]⟩
abbrev S1x6x1024 : Shape := ⟨3, ![1, 6, 1024]⟩
abbrev S1x22x8192 : Shape := ⟨3, ![1, 22, 8192]⟩
abbrev S22x8192 : Shape := ⟨2, ![22, 8192]⟩

abbrev nBuf : Space → Nat
  | .hbm => 6
  | .vmem => 8
  | .smem => 0
  | _ => 0

abbrev bufTy : (tb : Table) → Fin (tcTables nBuf tb) → BufTy
  | .hbm, ⟨0, _⟩ => ⟨S4x8192x128, .f32⟩
  | .hbm, ⟨1, _⟩ => ⟨S64x128, .f32⟩
  | .hbm, ⟨2, _⟩ => ⟨S64, .f32⟩
  | .hbm, ⟨3, _⟩ => ⟨S22x64, .f32⟩
  | .hbm, ⟨4, _⟩ => ⟨S22, .f32⟩
  | .hbm, ⟨5, _⟩ => ⟨S4x22x8192, .f32⟩
  | .local _ .vmem, ⟨0, _⟩ => ⟨S64x128, .f32⟩
  | .local _ .vmem, ⟨1, _⟩ => ⟨S64, .f32⟩
  | .local _ .vmem, ⟨2, _⟩ => ⟨S22x64, .f32⟩
  | .local _ .vmem, ⟨3, _⟩ => ⟨S22, .f32⟩
  | .local _ .vmem, ⟨4, _⟩ => ⟨S4x8192x128, .f32⟩
  | .local _ .vmem, ⟨5, _⟩ => ⟨S4x22x8192, .f32⟩
  | .local _ .vmem, ⟨6, _⟩ => ⟨S24x64, .f32⟩
  | .local _ .vmem, ⟨7, _⟩ => ⟨S24x1, .f32⟩
  | _, _ => ⟨S4x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S22x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S22 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x8192x128 : Shape := ⟨3, ![4, 8192, 128]⟩
abbrev S64x128 : Shape := ⟨2, ![64, 128]⟩
abbrev S64 : Shape := ⟨1, ![64]⟩
abbrev S22x64 : Shape := ⟨2, ![22, 64]⟩
abbrev S22 : Shape := ⟨1, ![22]⟩
abbrev S128x64 : Shape := ⟨2, ![128, 64]⟩
abbrev S4x8192x64 : Shape := ⟨3, ![4, 8192, 64]⟩
abbrev S1x1x64 : Shape := ⟨3, ![1, 1, 64]⟩
abbrev S_ : Shape := ⟨0, ![]⟩
abbrev S64x22 : Shape := ⟨2, ![64, 22]⟩
abbrev S4x8192x22 : Shape := ⟨3, ![4, 8192, 22]⟩
abbrev S1x1x22 : Shape := ⟨3, ![1, 1, 22]⟩
abbrev S4x8192x8 : Shape := ⟨3, ![4, 8192, 8]⟩
abbrev S4 : Shape := ⟨1, ![4]⟩
abbrev S4x1x1 : Shape := ⟨3, ![4, 1, 1]⟩
abbrev S8192 : Shape := ⟨1, ![8192]⟩
abbrev S1x8192x1 : Shape := ⟨3, ![1, 8192, 1]⟩
abbrev S4x8192x8x1 : Shape := ⟨4, ![4, 8192, 8, 1]⟩
abbrev S4x8192x8x3 : Shape := ⟨4, ![4, 8192, 8, 3]⟩
abbrev S4x22x8192 : Shape := ⟨3, ![4, 22, 8192]⟩

abbrev nBuf : Space → Nat
  | .hbm => 58
  | .vmem => 0
  | .smem => 0
  | _ => 0

abbrev bufTy : (tb : Table) → Fin (tcTables nBuf tb) → BufTy
  | .hbm, ⟨0, _⟩ => ⟨S4x8192x128, .f32⟩
  | .hbm, ⟨1, _⟩ => ⟨S64x128, .f32⟩
  | .hbm, ⟨2, _⟩ => ⟨S64, .f32⟩
  | .hbm, ⟨3, _⟩ => ⟨S22x64, .f32⟩
  | .hbm, ⟨4, _⟩ => ⟨S22, .f32⟩
  | .hbm, ⟨5, _⟩ => ⟨S128x64, .f32⟩
  | .hbm, ⟨6, _⟩ => ⟨S4x8192x64, .f32⟩
  | .hbm, ⟨7, _⟩ => ⟨S1x1x64, .f32⟩
  | .hbm, ⟨8, _⟩ => ⟨S4x8192x64, .f32⟩
  | .hbm, ⟨9, _⟩ => ⟨S4x8192x64, .f32⟩
  | .hbm, ⟨10, _⟩ => ⟨S_, .f32⟩
  | .hbm, ⟨11, _⟩ => ⟨S4x8192x64, .f32⟩
  | .hbm, ⟨12, _⟩ => ⟨S4x8192x64, .f32⟩
  | .hbm, ⟨13, _⟩ => ⟨S64x22, .f32⟩
  | .hbm, ⟨14, _⟩ => ⟨S4x8192x22, .f32⟩
  | .hbm, ⟨15, _⟩ => ⟨S1x1x22, .f32⟩
  | .hbm, ⟨16, _⟩ => ⟨S4x8192x22, .f32⟩
  | .hbm, ⟨17, _⟩ => ⟨S4x8192x22, .f32⟩
  | .hbm, ⟨18, _⟩ => ⟨S_, .f32⟩
  | .hbm, ⟨19, _⟩ => ⟨S4x8192x22, .f32⟩
  | .hbm, ⟨20, _⟩ => ⟨S4x8192x22, .f32⟩
  | .hbm, ⟨21, _⟩ => ⟨S4x8192x8, .f32⟩
  | .hbm, ⟨22, _⟩ => ⟨S4x8192x8, .i32⟩
  | .hbm, ⟨23, _⟩ => ⟨S4, .i32⟩
  | .hbm, ⟨24, _⟩ => ⟨S4x1x1, .i32⟩
  | .hbm, ⟨25, _⟩ => ⟨S8192, .i32⟩
  | .hbm, ⟨26, _⟩ => ⟨S1x8192x1, .i32⟩
  | .hbm, ⟨27, _⟩ => ⟨S_, .f32⟩
  | .hbm, ⟨28, _⟩ => ⟨S4x8192x22, .f32⟩
  | .hbm, ⟨29, _⟩ => ⟨S_, .i32⟩
  | .hbm, ⟨30, _⟩ => ⟨S4x1x1, .i32⟩
  | .hbm, ⟨31, _⟩ => ⟨S4x1x1, .i1⟩
  | .hbm, ⟨32, _⟩ => ⟨S_, .i32⟩
  | .hbm, ⟨33, _⟩ => ⟨S4x1x1, .i32⟩
  | .hbm, ⟨34, _⟩ => ⟨S4x1x1, .i32⟩
  | .hbm, ⟨35, _⟩ => ⟨S4x1x1, .i32⟩
  | .hbm, ⟨36, _⟩ => ⟨S_, .i32⟩
  | .hbm, ⟨37, _⟩ => ⟨S1x8192x1, .i32⟩
  | .hbm, ⟨38, _⟩ => ⟨S1x8192x1, .i1⟩
  | .hbm, ⟨39, _⟩ => ⟨S_, .i32⟩
  | .hbm, ⟨40, _⟩ => ⟨S1x8192x1, .i32⟩
  | .hbm, ⟨41, _⟩ => ⟨S1x8192x1, .i32⟩
  | .hbm, ⟨42, _⟩ => ⟨S1x8192x1, .i32⟩
  | .hbm, ⟨43, _⟩ => ⟨S_, .i32⟩
  | .hbm, ⟨44, _⟩ => ⟨S4x8192x8, .i32⟩
  | .hbm, ⟨45, _⟩ => ⟨S4x8192x8, .i1⟩
  | .hbm, ⟨46, _⟩ => ⟨S_, .i32⟩
  | .hbm, ⟨47, _⟩ => ⟨S4x8192x8, .i32⟩
  | .hbm, ⟨48, _⟩ => ⟨S4x8192x8, .i32⟩
  | .hbm, ⟨49, _⟩ => ⟨S4x8192x8, .i32⟩
  | .hbm, ⟨50, _⟩ => ⟨S4x8192x8, .i32⟩
  | .hbm, ⟨51, _⟩ => ⟨S4x8192x8, .i32⟩
  | .hbm, ⟨52, _⟩ => ⟨S4x8192x8x1, .i32⟩
  | .hbm, ⟨53, _⟩ => ⟨S4x8192x8x1, .i32⟩
  | .hbm, ⟨54, _⟩ => ⟨S4x8192x8x1, .i32⟩
  | .hbm, ⟨55, _⟩ => ⟨S4x8192x8x3, .i32⟩
  | .hbm, ⟨56, _⟩ => ⟨S4x8192x22, .f32⟩
  | .hbm, ⟨57, _⟩ => ⟨S4x22x8192, .f32⟩
  | _, _ => ⟨S4x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_values : Ref sig .tc := ⟨.hbm, 21, rfl⟩
abbrev main_indices : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Proof.Ideal.Program.lean ====
/-
  The kernel's body written once more as a short program: the prologue that reads the weights and pads the second
  layer, the four copies in, the four chunks of eight sub-steps each, the four copies out — each sub-step one
  function `step` of the chunk and the sub-step. `body_eq` states that the printed body is this program.
-/
module

public import proofs.«01_k».proof.Proof.Gen.KernelIdeal.Skeleton
public import proofs.«01_k».proof.Proof.Gen.KernelIdeal.Frame

@[expose] public section

set_option maxRecDepth 65536

noncomputable section

namespace Cert.KernelIdeal.Hand

open Cert.KernelIdeal.Gen
open Idealize.ShloMosaic Idealize.SL.Sem Idealize.ShloMosaic.Tactic

variable {F : FTy → Type} [FloatOps F]

/-! ## What one sub-step computes -/

/-- The two layers on one block of 1024 tokens, the channels (22 padded to 24) leading. -/
def layers (w1 : Vec F S64x128 .f32) (b1 : FVec F S1x64 .f32) (w2 : Vec F S24x64 .f32) (b2 : Vec F S24x1 .f32)
    (x : Vec F S1x1024x128 .f32) : FVec F S24x1024 .f32 :=
  maximumf
    (addf
      (matmul dot_S24x64_S1024x64_S24x1024_1_1_0_0_n_n none w2
        (maximumf
          (addf
            (matmul dot_S1024x128_S64x128_S1024x64_1_1_0_0_n_n none
              (shapeCast S1024x128 x shapeCasts_S1x1024x128_S1024x128) w1 (constant S1024x64 .f32 0x00000000#32))
            (broadcastTo S1024x64 b1 broadcasts_S1x64_S1024x64))
          (broadcast S1024x64 (Scalar.ofBits .f32 0x00000000#32)))
        (constant S24x1024 .f32 0x00000000#32))
      (broadcastTo S24x1024 b2 broadcasts_S24x1_S24x1024))
    (broadcast S24x1024 (Scalar.ofBits .f32 0x00000000#32))

/-- The 24 rows in three groups of eight. -/
def groups (y : FVec F S24x1024 .f32) : Fin 3 → FVec F S8x1024 .f32
  | 0 => extractStridedSlice S8x1024 ![0, 0] y slices_S24x1024_o0_0_S8x1024
  | 1 => extractStridedSlice S8x1024 ![8, 0] y slices_S24x1024_o8_0_S8x1024
  | 2 => extractStridedSlice S8x1024 ![16, 0] y slices_S24x1024_o16_0_S8x1024

/-- A block against itself rotated by `k` rows, the larger of the two. -/
def fold (k : BitVec 32) (g : FVec F S8x1024 .f32) : FVec F S8x1024 .f32 :=
  maximumf g (dynamicRotate 0 k none g rotates_S8x1024_d0)

/-- The largest of the 24 rows, on each of eight rows. -/
def top (g : Fin 3 → FVec F S8x1024 .f32) : FVec F S8x1024 .f32 :=
  fold 1#32 (fold 2#32 (fold 4#32 (maximumf (maximumf (g 0) (g 1)) (g 2))))

/-- One round: what reaches the largest becomes `-1`. -/
def round (g : Fin 3 → FVec F S8x1024 .f32) (k : Fin 3) : FVec F S8x1024 .f32 :=
  select (cmpf .oge (g k) (top g)) (broadcast S8x1024 (Scalar.ofBits .f32 0xBF800000#32)) (g k)

/-- The eighth largest distinct value: the largest after seven rounds. -/
def eighth (g : Fin 3 → FVec F S8x1024 .f32) : FVec F S8x1024 .f32 :=
  top (round (round (round (round (round (round (round g)))))))

/-- What is kept of a group: the values that reach the eighth. -/
def kept (g : Fin 3 → FVec F S8x1024 .f32) (k : Fin 3) : FVec F S8x1024 .f32 :=
  select (cmpf .oge (g k) (eighth g)) (g k) (broadcast S8x1024 (Scalar.ofBits .f32 0x00000000#32))

/-- The three blocks a sub-step stores. -/
def out0 (g : Fin 3 → FVec F S8x1024 .f32) : FVec F S1x8x1024 .f32 :=
  shapeCast S1x8x1024 (kept g 0) shapeCasts_S8x1024_S1x8x1024
def out1 (g : Fin 3 → FVec F S8x1024 .f32) : FVec F S1x8x1024 .f32 :=
  shapeCast S1x8x1024 (kept g 1) shapeCasts_S8x1024_S1x8x1024
def out2 (g : Fin 3 → FVec F S8x1024 .f32) : FVec F S1x6x1024 .f32 :=
  shapeCast S1x6x1024 (extractStridedSlice S6x1024 ![0, 0] (kept g 2) slices_S8x1024_o0_0_S6x1024) shapeCasts_S6x1024_S1x6x1024

/-! ## The program -/

theorem inbX (i s : Nat) (hi : i < 4) (hs : s < 8) : ∀ a, (![i, s * 1024, 0] : Fin 3 → Nat) a + S1x1024x128.size a ≤ S4x8192x128.size a := by
  intro a; fin_cases a
  · show i + 1 ≤ 4; omega
  · show s * 1024 + 1024 ≤ 8192; omega
  · show 0 + 128 ≤ 128; omega
theorem inbY (i s r : Nat) (hi : i < 4) (hs : s < 8) (hr : r ≤ 8) : ∀ a, (![i, r, s * 1024] : Fin 3 → Nat) a + S1x8x1024.size a ≤ S4x22x8192.size a := by
  intro a; fin_cases a
  · show i + 1 ≤ 4; omega
  · show r + 8 ≤ 22; omega
  · show s * 1024 + 1024 ≤ 8192; omega
theorem inbZ (i s : Nat) (hi : i < 4) (hs : s < 8) : ∀ a, (![i, 16, s * 1024] : Fin 3 → Nat) a + S1x6x1024.size a ≤ S4x22x8192.size a := by
  intro a; fin_cases a
  · show i + 1 ≤ 4; omega
  · show 16 + 6 ≤ 22; omega
  · show s * 1024 + 1024 ≤ 8192; omega
theorem inbXS (i : Nat) (hi : i < 4) : ∀ a, (![i, 0, 0] : Fin 3 → Nat) a + S1x8192x128.size a ≤ S4x8192x128.size a := by
  intro a; fin_cases a
  · show i + 1 ≤ 4; omega
  · show 0 + 8192 ≤ 8192; omega
  · show 0 + 128 ≤ 128; omega
theorem inbYS (i : Nat) (hi : i < 4) : ∀ a, (![i, 0, 0] : Fin 3 → Nat) a + S1x22x8192.size a ≤ S4x22x8192.size a := by
  intro a; fin_cases a
  · show i + 1 ≤ 4; omega
  · show 0 + 22 ≤ 22; omega
  · show 0 + 8192 ≤ 8192; omega
theorem inbS (i : Nat) (hi : i < 4) : ∀ a, (![i] : Fin 1 → Nat) a + S1.size a ≤ S4.size a := by
  intro a; fin_cases a; show i + 1 ≤ 4; omega

/-- Slab `i` of an array of four slabs of tokens, of one of four slabs of results, and cell `i` of four cells, as the
    body slices them. -/
def slabX {sp : Space} (M : Memref sig .tc sp S4x8192x128 .f32) (i : Nat) (hi : i < 4) : Memref sig .tc sp S8192x128 .f32 :=
  (M.slice (Rect.unit (s := S4x8192x128) ![i, 0, 0] S1x8192x128.size (inbXS i hi)) (fun _ => rfl)).squeeze S8192x128 squeezes_S1x8192x128_S8192x128
def slabY {sp : Space} (M : Memref sig .tc sp S4x22x8192 .f32) (i : Nat) (hi : i < 4) : Memref sig .tc sp S22x8192 .f32 :=
  (M.slice (Rect.unit (s := S4x22x8192) ![i, 0, 0] S1x22x8192.size (inbYS i hi)) (fun _ => rfl)).squeeze S22x8192 squeezes_S1x22x8192_S22x8192
def cell (A : DmaSems sig S4) (i : Nat) (hi : i < 4) : DmaSem sig :=
  ((A.slice (Rect.unit (s := S4) ![i] S1.size (inbS i hi))).squeeze S_ squeezes_S1_S_).sem

section Body

variable (arg0 : Memref sig .tc .hbm S4x8192x128 .f32) (arg1 : Memref sig .tc .vmem S64x128 .f32) (arg2 : Memref sig .tc .vmem S64 .f32)
  (arg3 : Memref sig .tc .vmem S22x64 .f32) (arg4 : Memref sig .tc .vmem S22 .f32) (arg5 : Memref sig .tc .hbm S4x22x8192 .f32)
  (arg6 : Memref sig .tc .vmem S4x8192x128 .f32) (arg7 : Memref sig .tc .vmem S4x22x8192 .f32) (arg8 : Memref sig .tc .vmem S24x64 .f32)
  (arg9 : Memref sig .tc .vmem S24x1 .f32) (arg10 arg11 : DmaSems sig S4)

/-- Start the copy of slab `i` of the input into slab `i` of the token buffer; wait for it. -/
def startIn (i : Nat) (hi : i < 4) : Prog (TpuEff nD τ sig (Elt F) Λ₀ .tc) PUnit :=
  Prog.lift (.enqueueDma (slabX arg0 i hi) (.here (slabX arg6 i hi)) (.dma (cell arg10 i hi))
    ((View.wordExact_bits rfl).reshape _ _) ((View.wordExact_bits rfl).reshape _ _) ⟨Or.inl rfl, trivial⟩)
def waitIn (i : Nat) (hi : i < 4) : Prog (TpuEff nD τ sig (Elt F) Λ₀ .tc) PUnit :=
  Prog.lift (.waitDma2 (cell arg10 i hi) (slabX arg0 i hi) (slabX arg6 i hi)
    ((View.wordExact_bits rfl).reshape _ _) ((View.wordExact_bits rfl).reshape _ _))
/-- Start the copy of slab `i` of the result buffer into slab `i` of the result; wait for it. -/
def startOut (i : Nat) (hi : i < 4) : Prog (TpuEff nD τ sig (Elt F) Λ₀ .tc) PUnit :=
  Prog.lift (.enqueueDma (slabY arg7 i hi) (.here (slabY arg5 i hi)) (.dma (cell arg11 i hi))
    ((View.wordExact_bits rfl).reshape _ _) ((View.wordExact_bits rfl).reshape _ _) ⟨Or.inl rfl, trivial⟩)
def waitOut (i : Nat) (hi : i < 4) : Prog (TpuEff nD τ sig (Elt F) Λ₀ .tc) PUnit :=
  Prog.lift (.waitDma2 (cell arg11 i hi) (slabY arg7 i hi) (slabY arg5 i hi)
    ((View.wordExact_bits rfl).reshape _ _) ((View.wordExact_bits rfl).reshape _ _))

/-- Sub-step `s` of chunk `i`: 1024 tokens read, three blocks of results stored (each place read before it is
    written, the value unused). -/
def step (w1 : Vec F S64x128 .f32) (b1 : FVec F S1x64 .f32) (w2 : Vec F S24x64 .f32) (b2 : Vec F S24x1 .f32)
    (i s : Nat) (hi : i < 4) (hs : s < 8) : Prog (TpuEff nD τ sig (Elt F) Λ₀ .tc) PUnit := do
  let x : Vec F S1x1024x128 .f32 ← Prog.lift (.load arg6 (Rect.unit (s := S4x8192x128) ![i, s * 1024, 0] S1x1024x128.size (inbX i s hi hs)).toLoadRect (View.loadsAt_vmem h_S1x1024x128))
  let _a : Vec F S1x8x1024 .f32 ← Prog.lift (.load arg7 (Rect.unit (s := S4x22x8192) ![i, 0, s * 1024] S1x8x1024.size (inbY i s 0 hi hs (by omega))).toLoadRect (View.loadsAt_vmem h_S1x8x1024))
  Prog.lift (.store arg7 (Rect.unit (s := S4x22x8192) ![i, 0, s * 1024] S1x8x1024.size (inbY i s 0 hi hs (by omega))) (out0 (groups (layers w1 b1 w2 b2 x))) Finset.univ (View.stores_vmem_bits_univ h_S1x8x1024 rfl) (.inl rfl))
  let _b : Vec F S1x8x1024 .f32 ← Prog.lift (.load arg7 (Rect.unit (s := S4x22x8192) ![i, 8, s * 1024] S1x8x1024.size (inbY i s 8 hi hs (by omega))).toLoadRect (View.loadsAt_vmem h_S1x8x1024))
  Prog.lift (.store arg7 (Rect.unit (s := S4x22x8192) ![i, 8, s * 1024] S1x8x1024.size (inbY i s 8 hi hs (by omega))) (out1 (groups (layers w1 b1 w2 b2 x))) Finset.univ (View.stores_vmem_bits_univ h_S1x8x1024 rfl) (.inl rfl))
  let _c : Vec F S1x6x1024 .f32 ← Prog.lift (.load arg7 (Rect.unit (s := S4x22x8192) ![i, 16, s * 1024] S1x6x1024.size (inbZ i s hi hs)).toLoadRect (View.loadsAt_vmem h_S1x6x1024))
  Prog.lift (.store arg7 (Rect.unit (s := S4x22x8192) ![i, 16, s * 1024] S1x6x1024.size (inbZ i s hi hs)) (out2 (groups (layers w1 b1 w2 b2 x))) Finset.univ (View.stores_vmem_bits_univ h_S1x6x1024 rfl) (.inl rfl))

/-- The first `n` sub-steps of chunk `i`. -/
def steps (w1 : Vec F S64x128 .f32) (b1 : FVec F S1x64 .f32) (w2 : Vec F S24x64 .f32) (b2 : Vec F S24x1 .f32)
    (i : Nat) (hi : i < 4) : (n : Nat) → n ≤ 8 → Prog (TpuEff nD τ sig (Elt F) Λ₀ .tc) PUnit
  | 0, _ => pure ⟨⟩
  | n + 1, h => do
    steps w1 b1 w2 b2 i hi n (Nat.le_of_succ_le h)
    step arg6 arg7 w1 b1 w2 b2 i n hi h

/-- Chunk `i`: its eight sub-steps, and its copy out started. -/
def chunk (w1 : Vec F S64x128 .f32) (b1 : FVec F S1x64 .f32) (w2 : Vec F S24x64 .f32) (b2 : Vec F S24x1 .f32)
    (i : Nat) (hi : i < 4) : Prog (TpuEff nD τ sig (Elt F) Λ₀ .tc) PUnit := do
  steps arg6 arg7 w1 b1 w2 b2 i hi 8 (Nat.le_refl 8)
  startOut arg5 arg7 arg11 i hi

/-- The prologue: the first layer read, the second layer padded with zeros from 22 rows to 24 and read back. -/
def prologue : Prog (TpuEff nD τ sig (Elt F) Λ₀ .tc)
    (Σ' (_ : Vec F S64x128 .f32) (_ : FVec F S1x64 .f32) (_ : Vec F S24x64 .f32), Vec F S24x1 .f32) := do
  let w1 : Vec F S64x128 .f32 ← Prog.lift (.load arg1 (Rect.unit (s := S64x128) ![0, 0] S64x128.size inb_S64x128_S64x128_0_0).toLoadRect (View.loadsAt_vmem h_S64x128))
  let b1 : Vec F S64 .f32 ← Prog.lift (.load arg2 (Rect.unit (s := S64) ![0] S64.size inb_S64_S64_0).toLoadRect (View.loadsAt_vmem h_S64))
  let _a : Vec F S24x64 .f32 ← Prog.lift (.load arg8 (Rect.unit (s := S24x64) ![0, 0] S24x64.size inb_S24x64_S24x64_0_0).toLoadRect (View.loadsAt_vmem h_S24x64))
  Prog.lift (.store arg8 (Rect.unit (s := S24x64) ![0, 0] S24x64.size inb_S24x64_S24x64_0_0) (k0_pay2 (F := F)) Finset.univ (View.stores_vmem_bits_univ h_S24x64 rfl) (.inl rfl))
  let w : Vec F S22x64 .f32 ← Prog.lift (.load arg3 (Rect.unit (s := S22x64) ![0, 0] S22x64.size inb_S22x64_S22x64_0_0).toLoadRect (View.loadsAt_vmem h_S22x64))
  let _b : Vec F S22x64 .f32 ← Prog.lift (.load arg8 (Rect.unit (s := S24x64) ![0, 0] S22x64.size inb_S24x64_S22x64_0_0).toLoadRect (View.loadsAt_vmem h_S22x64))
  Prog.lift (.store arg8 (Rect.unit (s := S24x64) ![0, 0] S22x64.size inb_S24x64_S22x64_0_0) (k0_pay3 w) Finset.univ (View.stores_vmem_bits_univ h_S22x64 rfl) (.inl rfl))
  let _c : Vec F S24x1 .f32 ← Prog.lift (.load arg9 (Rect.unit (s := S24x1) ![0, 0] S24x1.size inb_S24x1_S24x1_0_0).toLoadRect (View.loadsAt_vmem h_S24x1))
  Prog.lift (.store arg9 (Rect.unit (s := S24x1) ![0, 0] S24x1.size inb_S24x1_S24x1_0_0) (k0_pay4 (F := F)) Finset.univ (View.stores_vmem_bits_univ h_S24x1 rfl) (.inl rfl))
  let b : Vec F S22 .f32 ← Prog.lift (.load arg4 (Rect.unit (s := S22) ![0] S22.size inb_S22_S22_0).toLoadRect (View.loadsAt_vmem h_S22))
  let _d : Vec F S22x1 .f32 ← Prog.lift (.load arg9 (Rect.unit (s := S24x1) ![0, 0] S22x1.size inb_S24x1_S22x1_0_0).toLoadRect (View.loadsAt_vmem h_S22x1))
  Prog.lift (.store arg9 (Rect.unit (s := S24x1) ![0, 0] S22x1.size inb_S24x1_S22x1_0_0) (k0_pay5 b) Finset.univ (View.stores_vmem_bits_univ h_S22x1 rfl) (.inl rfl))
  let w2 : Vec F S24x64 .f32 ← Prog.lift (.load arg8 (Rect.unit (s := S24x64) ![0, 0] S24x64.size inb_S24x64_S24x64_0_0).toLoadRect (View.loadsAt_vmem h_S24x64))
  let b2 : Vec F S24x1 .f32 ← Prog.lift (.load arg9 (Rect.unit (s := S24x1) ![0, 0] S24x1.size inb_S24x1_S24x1_0_0).toLoadRect (View.loadsAt_vmem h_S24x1))
  pure ⟨w1, k0_pay1 b1, w2, b2⟩

/-- The body from the weights on. -/
def rest (w1 : Vec F S64x128 .f32) (b1 : FVec F S1x64 .f32) (w2 : Vec F S24x64 .f32) (b2 : Vec F S24x1 .f32) :
    Prog (TpuEff nD τ sig (Elt F) Λ₀ .tc) PUnit := do
  startIn arg0 arg6 arg10 0 (by decide)
  startIn arg0 arg6 arg10 1 (by decide)
  startIn arg0 arg6 arg10 2 (by decide)
  waitIn arg0 arg6 arg10 0 (by decide)
  startIn arg0 arg6 arg10 3 (by decide)
  chunk arg5 arg6 arg7 arg11 w1 b1 w2 b2 0 (by decide)
  waitIn arg0 arg6 arg10 1 (by decide)
  chunk arg5 arg6 arg7 arg11 w1 b1 w2 b2 1 (by decide)
  waitIn arg0 arg6 arg10 2 (by decide)
  chunk arg5 arg6 arg7 arg11 w1 b1 w2 b2 2 (by decide)
  waitIn arg0 arg6 arg10 3 (by decide)
  chunk arg5 arg6 arg7 arg11 w1 b1 w2 b2 3 (by decide)
  waitOut arg5 arg7 arg11 0 (by decide)
  waitOut arg5 arg7 arg11 1 (by decide)
  waitOut arg5 arg7 arg11 2 (by decide)
  waitOut arg5 arg7 arg11 3 (by decide)

/-- The whole body. -/
def body : Prog (TpuEff nD τ sig (Elt F) Λ₀ .tc) PUnit := do
  let v ← prologue arg1 arg2 arg3 arg4 arg8 arg9
  rest arg0 arg5 arg6 arg7 arg10 arg11 v.1 v.2.1 v.2.2.1 v.2.2.2

/-- The printed body is this program. -/
theorem body_eq (h0 : arg0.IsWhole) (h1 : arg1.IsWhole) (h2 : arg2.IsWhole) (h3 : arg3.IsWhole) (h4 : arg4.IsWhole)
    (h5 : arg5.IsWhole) (h6 : arg6.IsWhole) (h7 : arg7.IsWhole) (h8 : arg8.IsWhole) (h9 : arg9.IsWhole) :
    cc0__mlp_topk_kernel (F := F) arg0 h0 arg1 h1 arg2 h2 arg3 h3 arg4 h4 arg5 h5 arg6 h6 arg7 h7 arg8 h8 arg9 h9 arg10 arg11
      = body arg0 arg1 arg2 arg3 arg4 arg5 arg6 arg7 arg8 arg9 arg10 arg11 := by
  sl_kernel_rfl

end Body

end Cert.KernelIdeal.Hand

end
-- ==== Proof.Ideal.Geometry.lean ====
/-
  Where the body's slabs and blocks lie, and what a copy of a slab and a store of a block leave in the buffer they
  write, index by index; and `result`, the contents the result ends at, as a function of the tokens and the weights.
-/
module

public import proofs.«01_k».proof.Proof.Ideal.Program
public import Idealize.ShloMosaic.Lib.Pointwise.Index
public import Idealize.ShloMosaic.Lib.Pipeline.Value

@[expose] public section

set_option maxRecDepth 65536
set_option backward.isDefEq.respectTransparency.types false

noncomputable section

namespace Cert.KernelIdeal.Hand

open Cert.KernelIdeal.Gen
open Idealize.ShloMosaic Idealize.SL.Sem Idealize.ShloMosaic.Tactic

variable {F : FTy → Type} [FloatOps F]

/-! ## The buffers -/

/-- The tokens and the result in HBM, and their buffers in VMEM. -/
abbrev MA : Memref sig .tc .hbm S4x8192x128 .f32 := Memref.whole main_arg0
abbrev MO : Memref sig .tc .hbm S4x22x8192 .f32 := Memref.whole main_v0
abbrev MX : Memref sig .tc .vmem S4x8192x128 .f32 := Memref.whole cc0_scratch0
abbrev MY : Memref sig .tc .vmem S4x22x8192 .f32 := Memref.whole cc0_scratch1

/-! ## The result's contents -/

/-- The block of 1024 tokens that sub-step `s` of chunk `i` reads. -/
def block (X : S4x8192x128.Idx → F .f32) (i s : Nat) (hi : i < 4) (hs : s < 8) : Vec F S1x1024x128 .f32 :=
  fun x => X (ix3 ⟨i, hi⟩ ⟨s * 1024 + (x 1).val, by have h : (x 1).val < 1024 := (x 1).isLt; omega⟩ ⟨(x 2).val, (x 2).isLt⟩)

/-- What the three stored blocks put at row `r` and column `t` of 22 rows and 1024 columns. -/
def placed (g : Fin 3 → FVec F S8x1024 .f32) (r : Fin 22) (t : Fin 1024) : F .f32 :=
  if h : r.val < 8 then out0 g (ix3 0 ⟨r.val, h⟩ t)
  else if h' : r.val < 16 then out1 g (ix3 0 ⟨r.val - 8, by omega⟩ t)
  else out2 g (ix3 0 ⟨r.val - 16, by omega⟩ t)

/-- The result: each chunk's tokens in blocks of 1024, each block through the two layers and the selection. -/
def result (w1 : Vec F S64x128 .f32) (b1 : FVec F S1x64 .f32) (w2 : Vec F S24x64 .f32) (b2 : Vec F S24x1 .f32)
    (X : S4x8192x128.Idx → F .f32) : S4x22x8192.Idx → F .f32 := fun j =>
  placed (groups (layers w1 b1 w2 b2 (block X (j 0).val ((j 2).val / 1024) (j 0).isLt
    (by have h : (j 2).val < 8192 := (j 2).isLt; omega)))) (j 1) ⟨(j 2).val % 1024, Nat.mod_lt _ (by decide)⟩

/-- The second layer's weights and biases with two rows of zeros below. -/
def padW (w : S22x64.Idx → F .f32) : S24x64.Idx → F .f32 := fun j =>
  if h : (j 0).val < 22 then w (ix2 ⟨(j 0).val, h⟩ (j 1)) else Scalar.ofBits .f32 0x00000000#32
def padB (b : S22.Idx → F .f32) : S24x1.Idx → F .f32 := fun j =>
  if h : (j 0).val < 22 then k0_pay5 b (ix2 ⟨(j 0).val, h⟩ 0) else Scalar.ofBits .f32 0x00000000#32

/-! ## The slabs -/

theorem mem_slabX {sp : Space} (M : Memref sig .tc sp S4x8192x128 .f32) (i : Nat) (hi : i < 4) (j : S4x8192x128.Idx) :
    M.view.emb j ∈ (slabX M i hi).view.set ↔ (j 0).val = i := by
  unfold slabX
  rw [Memref.set_view_squeeze]
  refine Iff.trans (b := j ∈ (Rect.unit (s := S4x8192x128) ![i, 0, 0] S1x8192x128.size (inbXS i hi)).set) ?_ ?_
  · exact (iff_of_eq (congrArg (M.view.emb j ∈ ·) (View.set_slice M.view _))).trans (Finset.mem_map' M.view.emb)
  rw [Rect.mem_set_unit]
  constructor
  · intro h
    have h0 : i ≤ (j 0).val ∧ (j 0).val < i + 1 := h 0
    omega
  · intro h a
    fin_cases a
    · show i ≤ (j 0).val ∧ (j 0).val < i + 1; omega
    · exact ⟨Nat.zero_le _, by have := (j 1).isLt; simpa using this⟩
    · exact ⟨Nat.zero_le _, by have := (j 2).isLt; simpa using this⟩

theorem mem_slabY {sp : Space} (M : Memref sig .tc sp S4x22x8192 .f32) (i : Nat) (hi : i < 4) (j : S4x22x8192.Idx) :
    M.view.emb j ∈ (slabY M i hi).view.set ↔ (j 0).val = i := by
  unfold slabY
  rw [Memref.set_view_squeeze]
  refine Iff.trans (b := j ∈ (Rect.unit (s := S4x22x8192) ![i, 0, 0] S1x22x8192.size (inbYS i hi)).set) ?_ ?_
  · exact (iff_of_eq (congrArg (M.view.emb j ∈ ·) (View.set_slice M.view _))).trans (Finset.mem_map' M.view.emb)
  rw [Rect.mem_set_unit]
  constructor
  · intro h
    have h0 : i ≤ (j 0).val ∧ (j 0).val < i + 1 := h 0
    omega
  · intro h a
    fin_cases a
    · show i ≤ (j 0).val ∧ (j 0).val < i + 1; omega
    · exact ⟨Nat.zero_le _, by have := (j 1).isLt; simpa using this⟩
    · exact ⟨Nat.zero_le _, by have := (j 2).isLt; simpa using this⟩

/-- A slab of the tokens copied into the token buffer holds the tokens. -/
theorem landX (i : Nat) (hi : i < 4) (fd X : S4x8192x128.Idx → F .f32) (j : S4x8192x128.Idx) (h : (j 0).val = i) :
    (slabX MX i hi).view.write (Elt F) fd (ReadAs.same.apply ((slabX MA i hi).view.read (Elt F) X)) Finset.univ j = X j := by
  obtain ⟨x, -, hx⟩ := Finset.mem_map.mp ((mem_slabX MX i hi j).mpr h)
  have hx' : (slabX MX i hi).view.emb x = j := hx
  subst hx'
  exact View.write_emb_of_mem _ _ (Finset.mem_univ x)

/-- A slab of the result buffer copied into the result holds what the buffer held. -/
theorem landY (i : Nat) (hi : i < 4) (fd Y : S4x22x8192.Idx → F .f32) (j : S4x22x8192.Idx) (h : (j 0).val = i) :
    (slabY MO i hi).view.write (Elt F) fd (ReadAs.same.apply ((slabY MY i hi).view.read (Elt F) Y)) Finset.univ j = Y j := by
  obtain ⟨x, -, hx⟩ := Finset.mem_map.mp ((mem_slabY MO i hi j).mpr h)
  have hx' : (slabY MO i hi).view.emb x = j := hx
  subst hx'
  exact View.write_emb_of_mem _ _ (Finset.mem_univ x)

/-! ## The blocks -/

/-- A buffer with a box of unit stride rewritten, at an index: in the box the box's value, elsewhere what was there. -/
theorem write_box (b : Ref sig .tc) {off size : Fin b.ty.shape.rank → Nat} (inb : ∀ a, off a + size a ≤ b.ty.shape.size a)
    (f : b.ty.shape.Idx → Elt F b.ty.elt) (w : (Rect.unit (s := b.ty.shape) off size inb).shape.Idx → Elt F b.ty.elt) (j : b.ty.shape.Idx) :
    ((View.whole b).slice (Rect.unit off size inb)).write (Elt F) f w Finset.univ j
      = if h : ∀ a, off a ≤ (j a).val ∧ (j a).val < off a + size a then
          w (fun a => ⟨(j a).val - off a, by have := h a; show _ < size a; omega⟩) else f j := by
  by_cases h : ∀ a, off a ≤ (j a).val ∧ (j a).val < off a + size a
  · rw [dif_pos h]
    have hj : ((View.whole b).slice (Rect.unit off size inb)).emb
        (fun a => ⟨(j a).val - off a, by have := h a; show _ < size a; omega⟩) = j := by
      funext a
      refine Fin.ext ?_
      show off a + 1 * ((j a).val - off a) = (j a).val
      have := h a; omega
    refine (congrArg _ hj.symm).trans ?_
    exact View.write_emb_of_mem _ _ (Finset.mem_univ _)
  · rw [dif_neg h]
    refine View.write_of_not_mem _ _ _ fun hm => h ?_
    exact Rect.mem_set_unit.mp ((iff_of_eq (congrArg (j ∈ ·) (View.set_slice_whole b (Rect.unit off size inb)))).mp hm)

/-- Whether an index lies in a box of unit stride, and what a store of the box leaves there. -/
theorem mem_boxY {off size : Fin 3 → Nat} (inb : ∀ a, off a + size a ≤ S4x22x8192.size a) (j : S4x22x8192.Idx) :
    j ∈ (MY.access (Rect.unit (s := S4x22x8192) off size inb)).set ↔ ∀ a, off a ≤ (j a).val ∧ (j a).val < off a + size a := by
  exact (iff_of_eq (congrArg (j ∈ ·) (View.set_slice_whole cc0_scratch1 (Rect.unit (s := S4x22x8192) off size inb)))).trans Rect.mem_set_unit

/-- The result buffer with a box rewritten. -/
def putY {off size : Fin 3 → Nat} (inb : ∀ a, off a + size a ≤ S4x22x8192.size a) (f : S4x22x8192.Idx → F .f32)
    (w : (Rect.unit (s := S4x22x8192) off size inb).shape.Idx → F .f32) : S4x22x8192.Idx → F .f32 :=
  (MY.access (Rect.unit (s := S4x22x8192) off size inb)).write (Elt F) f w Finset.univ

theorem putY_apply {off size : Fin 3 → Nat} (inb : ∀ a, off a + size a ≤ S4x22x8192.size a) (f : S4x22x8192.Idx → F .f32)
    (w : (Rect.unit (s := S4x22x8192) off size inb).shape.Idx → F .f32) (j : S4x22x8192.Idx) :
    putY inb f w j
      = if h : ∀ a, off a ≤ (j a).val ∧ (j a).val < off a + size a then
          w (fun a => ⟨(j a).val - off a, by have := h a; show _ < size a; omega⟩) else f j := by
  exact write_box cc0_scratch1 inb f w j

/-- What sub-step `s` of chunk `i` reads of the tokens. -/
theorem read_block (i s : Nat) (hi : i < 4) (hs : s < 8) (X : S4x8192x128.Idx → F .f32) :
    (MX.access (Rect.unit (s := S4x8192x128) ![i, s * 1024, 0] S1x1024x128.size (inbX i s hi hs))).read (Elt F) X = block X i s hi hs := by
  funext x
  show X _ = X _
  refine congrArg X (funext fun a => Fin.ext ?_)
  have h0 : (x 0).val < 1 := (x 0).isLt
  fin_cases a
  · show i + 1 * (x 0).val = i; omega
  · show s * 1024 + 1 * (x 1).val = s * 1024 + (x 1).val; omega
  · show 0 + 1 * (x 2).val = (x 2).val; omega

theorem read_block_sub (i s : Nat) (hi : i < 4) (hs : s < 8) :
    (MX.access (Rect.unit (s := S4x8192x128) ![i, s * 1024, 0] S1x1024x128.size (inbX i s hi hs))).set ⊆ (slabX MX i hi).view.set := by
  intro j hj
  have hj' : j ∈ ((View.whole cc0_scratch0).slice (Rect.unit (s := S4x8192x128) ![i, s * 1024, 0] S1x1024x128.size (inbX i s hi hs))).set := hj
  rw [View.set_slice_whole] at hj'
  have h := (Rect.mem_set_unit.mp hj') 0
  have h0 : i ≤ (j 0).val ∧ (j 0).val < i + 1 := h
  exact (mem_slabX MX i hi j).mpr (by omega)

theorem boxY_sub (i : Nat) (hi : i < 4) {off size : Fin 3 → Nat} (inb : ∀ a, off a + size a ≤ S4x22x8192.size a) (h0 : off 0 = i) (h1 : size 0 = 1) :
    (MY.access (Rect.unit (s := S4x22x8192) off size inb)).set ⊆ (slabY MY i hi).view.set := by
  intro j hj
  have h := ((mem_boxY inb j).mp hj) 0
  exact (mem_slabY MY i hi j).mpr (by omega)

/-! ## The padded weights -/

abbrev MW : Memref sig .tc .vmem S24x64 .f32 := Memref.whole cc0_scratch2
abbrev MB : Memref sig .tc .vmem S24x1 .f32 := Memref.whole cc0_scratch3

/-- The zeros stored, the 22 rows stored over them, and all 24 read back. -/
theorem read_padW (f : S24x64.Idx → F .f32) (w : S22x64.Idx → F .f32) :
    (MW.access (Rect.unit (s := S24x64) ![0, 0] S24x64.size inb_S24x64_S24x64_0_0)).read (Elt F)
      ((MW.access (Rect.unit (s := S24x64) ![0, 0] S22x64.size inb_S24x64_S22x64_0_0)).write (Elt F)
        ((MW.access (Rect.unit (s := S24x64) ![0, 0] S24x64.size inb_S24x64_S24x64_0_0)).write (Elt F) f (k0_pay2 (F := F)) Finset.univ)
        (k0_pay3 w) Finset.univ) = padW w := by
  have hw : k0_pay3 w = w := shapeCast_self w _
  rw [hw]
  refine (Memref.read_access_unit_zero (Elt F) cc0_scratch2 (by funext a; fin_cases a <;> rfl) _ _).trans ?_
  funext j
  refine (write_box cc0_scratch2 inb_S24x64_S22x64_0_0 _ w j).trans ?_
  have h1 : (j 1).val < 64 := (j 1).isLt
  unfold padW
  by_cases h : (j 0).val < 22
  · rw [dif_pos h, dif_pos]
    · refine congrArg w (funext fun a => Fin.ext ?_)
      fin_cases a <;> rfl
    · intro a
      fin_cases a
      · exact ⟨Nat.zero_le _, by show (j 0).val < 0 + 22; omega⟩
      · exact ⟨Nat.zero_le _, by show (j 1).val < 0 + 64; omega⟩
  · rw [dif_neg h, dif_neg]
    · refine (congrFun (Memref.write_access_unit_zero_univ (Elt F) cc0_scratch2 (by funext a; fin_cases a <;> rfl) _ f _) j).trans ?_
      rfl
    · intro h'
      have : (j 0).val < 0 + 22 := (h' 0).2
      omega

theorem read_padB (f : S24x1.Idx → F .f32) (b : S22.Idx → F .f32) :
    (MB.access (Rect.unit (s := S24x1) ![0, 0] S24x1.size inb_S24x1_S24x1_0_0)).read (Elt F)
      ((MB.access (Rect.unit (s := S24x1) ![0, 0] S22x1.size inb_S24x1_S22x1_0_0)).write (Elt F)
        ((MB.access (Rect.unit (s := S24x1) ![0, 0] S24x1.size inb_S24x1_S24x1_0_0)).write (Elt F) f (k0_pay4 (F := F)) Finset.univ)
        (k0_pay5 b) Finset.univ) = padB b := by
  refine (Memref.read_access_unit_zero (Elt F) cc0_scratch3 (by funext a; fin_cases a <;> rfl) _ _).trans ?_
  funext j
  refine (write_box cc0_scratch3 inb_S24x1_S22x1_0_0 _ (k0_pay5 b) j).trans ?_
  have h1 : (j 1).val < 1 := (j 1).isLt
  unfold padB
  by_cases h : (j 0).val < 22
  · rw [dif_pos h, dif_pos]
    · refine congrArg (k0_pay5 b) (funext fun a => Fin.ext ?_)
      fin_cases a
      · rfl
      · show (j 1).val - 0 = 0; omega
    · intro a
      fin_cases a
      · exact ⟨Nat.zero_le _, by show (j 0).val < 0 + 22; omega⟩
      · exact ⟨Nat.zero_le _, by show (j 1).val < 0 + 1; omega⟩
  · rw [dif_neg h, dif_neg]
    · refine (congrFun (Memref.write_access_unit_zero_univ (Elt F) cc0_scratch3 (by funext a; fin_cases a <;> rfl) _ f _) j).trans ?_
      rfl
    · intro h'
      have : (j 0).val < 0 + 22 := (h' 0).2
      omega

/-! ## One sub-step's stores -/

/-- Chunk `i`'s slab holds the result in its first `n` blocks of columns. -/
def Upto (G : S4x22x8192.Idx → F .f32) (i n : Nat) (f : S4x22x8192.Idx → F .f32) : Prop :=
  ∀ j : S4x22x8192.Idx, (j 0).val = i → (j 2).val < n * 1024 → f j = G j

/-- The three stores of sub-step `s` take the slab from `s` blocks to `s + 1`. -/
theorem Upto.step (w1 : Vec F S64x128 .f32) (b1 : FVec F S1x64 .f32) (w2 : Vec F S24x64 .f32) (b2 : Vec F S24x1 .f32)
    (X : S4x8192x128.Idx → F .f32) (i s : Nat) (hi : i < 4) (hs : s < 8) (f : S4x22x8192.Idx → F .f32)
    (hf : Upto (result w1 b1 w2 b2 X) i s f) :
    Upto (result w1 b1 w2 b2 X) i (s + 1)
      (putY (inbZ i s hi hs)
        (putY (inbY i s 8 hi hs (by omega))
          (putY (inbY i s 0 hi hs (by omega)) f (out0 (groups (layers w1 b1 w2 b2 (block X i s hi hs)))))
          (out1 (groups (layers w1 b1 w2 b2 (block X i s hi hs)))))
        (out2 (groups (layers w1 b1 w2 b2 (block X i s hi hs))))) := by
  intro j h0 h2
  have hr : (j 1).val < 22 := (j 1).isLt
  have e0 : ∀ (r n : Nat), (∀ a : Fin 3, (![i, r, s * 1024] : Fin 3 → Nat) a ≤ (j a).val ∧ (j a).val < (![i, r, s * 1024] : Fin 3 → Nat) a + (![1, n, 1024] : Fin 3 → Nat) a)
      ↔ (r ≤ (j 1).val ∧ (j 1).val < r + n) ∧ s * 1024 ≤ (j 2).val := by
    intro r n
    constructor
    · intro h
      have h1 : r ≤ (j 1).val ∧ (j 1).val < r + n := h 1
      have h2 : s * 1024 ≤ (j 2).val ∧ (j 2).val < s * 1024 + 1024 := h 2
      exact ⟨h1, h2.1⟩
    · rintro ⟨h1, h3⟩ a
      fin_cases a
      · show i ≤ (j 0).val ∧ (j 0).val < i + 1; omega
      · exact h1
      · show s * 1024 ≤ (j 2).val ∧ (j 2).val < s * 1024 + 1024; omega
  rw [putY_apply, putY_apply, putY_apply]
  by_cases hlt : (j 2).val < s * 1024
  · rw [dif_neg fun h => absurd ((e0 16 6).mp h).2 (by omega), dif_neg fun h => absurd ((e0 8 8).mp h).2 (by omega),
      dif_neg fun h => absurd ((e0 0 8).mp h).2 (by omega)]
    exact hf j h0 hlt
  · have hq : (j 2).val / 1024 = s := by omega
    have hres : result w1 b1 w2 b2 X j
        = placed (groups (layers w1 b1 w2 b2 (block X i s hi hs))) (j 1) ⟨(j 2).val % 1024, Nat.mod_lt _ (by decide)⟩ := by
      unfold result
      subst h0; subst hq; rfl
    rw [hres]
    unfold placed
    have hmod : (j 2).val - s * 1024 = (j 2).val % 1024 := by omega
    by_cases h8 : (j 1).val < 8
    · rw [dif_neg fun h => absurd ((e0 16 6).mp h).1 (by omega), dif_neg fun h => absurd ((e0 8 8).mp h).1 (by omega),
        dif_pos ((e0 0 8).mpr ⟨by omega, by omega⟩), dif_pos h8]
      refine congrArg _ (funext fun a => Fin.ext ?_)
      fin_cases a
      · show (j 0).val - i = 0; omega
      · show (j 1).val - 0 = (j 1).val; omega
      · exact hmod
    · by_cases h16 : (j 1).val < 16
      · rw [dif_neg fun h => absurd ((e0 16 6).mp h).1 (by omega), dif_pos ((e0 8 8).mpr ⟨by omega, by omega⟩), dif_neg h8, dif_pos h16]
        refine congrArg _ (funext fun a => Fin.ext ?_)
        fin_cases a
        · show (j 0).val - i = 0; omega
        · rfl
        · exact hmod
      · rw [dif_pos ((e0 16 6).mpr ⟨by omega, by omega⟩), dif_neg h8, dif_neg h16]
        refine congrArg _ (funext fun a => Fin.ext ?_)
        fin_cases a
        · show (j 0).val - i = 0; omega
        · rfl
        · exact hmod

end Cert.KernelIdeal.Hand

end
-- ==== Proof.Ideal.Body.lean ====
/-
  The body's triple, part by part.
-/
module

public import proofs.«01_k».proof.Proof.Ideal.Geometry
public import Idealize.ShloMosaic.Lib.Pipeline.FrameBody
public import Idealize.ShloMosaic.Lib.Ring
public import Idealize.ShloMosaic.Lib.Transfers
public import Idealize.ShloMosaic.Lib.Tactic

@[expose] public section

set_option maxRecDepth 65536
set_option backward.isDefEq.respectTransparency.types false

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- The program's weakest precondition on the device. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- Slab `i` of the tokens, of the token buffer, of the result buffer and of the result, held at contents. -/
abbrev atA (c : Dev nD) (i : Nat) (hi : i < 4) (X : S4x8192x128.Idx → F .f32) : sProp 𝕄 :=
  (slabX MA i hi).view.loc (c : Thread nD τ) ↦[(slabX MA i hi).view.set]{fullShare} X
abbrev atX (c : Dev nD) (i : Nat) (hi : i < 4) (X : S4x8192x128.Idx → F .f32) : sProp 𝕄 :=
  (slabX MX i hi).view.loc (c : Thread nD τ) ↦[(slabX MX i hi).view.set]{fullShare} X
abbrev atY (c : Dev nD) (i : Nat) (hi : i < 4) (Y : S4x22x8192.Idx → F .f32) : sProp 𝕄 :=
  (slabY MY i hi).view.loc (c : Thread nD τ) ↦[(slabY MY i hi).view.set]{fullShare} Y
abbrev atO (c : Dev nD) (i : Nat) (hi : i < 4) (Y : S4x22x8192.Idx → F .f32) : sProp 𝕄 :=
  (slabY MO i hi).view.loc (c : Thread nD τ) ↦[(slabY MO i hi).view.set]{fullShare} Y

/-- A slab's contents matter only at the slab's own indices. -/
theorem atX_congr (c : Dev nD) (i : Nat) (hi : i < 4) {f g : S4x8192x128.Idx → F .f32} (h : ∀ j : S4x8192x128.Idx, (j 0).val = i → f j = g j) :
    (atX c i hi f : sProp 𝕄) = atX c i hi g :=
  pointsTo_congr fun j hj => h j ((mem_slabX MX i hi j).mp hj)
theorem atY_congr (c : Dev nD) (i : Nat) (hi : i < 4) {f g : S4x22x8192.Idx → F .f32} (h : ∀ j : S4x22x8192.Idx, (j 0).val = i → f j = g j) :
    (atY c i hi f : sProp 𝕄) = atY c i hi g :=
  pointsTo_congr fun j hj => h j ((mem_slabY MY i hi j).mp hj)
theorem atO_congr (c : Dev nD) (i : Nat) (hi : i < 4) {f g : S4x22x8192.Idx → F .f32} (h : ∀ j : S4x22x8192.Idx, (j 0).val = i → f j = g j) :
    (atO c i hi f : sProp 𝕄) = atO c i hi g :=
  pointsTo_congr fun j hj => h j ((mem_slabY MO i hi j).mp hj)

/-! ## The accesses -/

section Access

theorem load_X (c : Dev nD) {α : Type} (Q : α → sProp 𝕄) (i s : Nat) (hi : i < 4) (hs : s < 8) (X : S4x8192x128.Idx → F .f32)
    {hl : MX.view.LoadsAt (Rect.unit (s := S4x8192x128) ![i, s * 1024, 0] S1x1024x128.size (inbX i s hi hs)).toLoadRect}
    (k : Vec F S1x1024x128 .f32 → Prog (TpuEff nD τ sig (Elt F) Λ₀ .tc) α) :
    atX c i hi X ⊢ iprop((atX c i hi X -∗ WP c (k (block X i s hi hs)) Q)
      -∗ WP c (.op (.load MX (Rect.unit (s := S4x8192x128) ![i, s * 1024, 0] S1x1024x128.size (inbX i s hi hs)).toLoadRect hl) k) Q) := by
  have h := wp_load_rect (Γ := PendingWaitsCtx.empty) (defs := defs₀ (F := F)) (Q := Q) (q := fullShare) (f := X) (k := k) (hl := hl) Variants.none (c : Thread nD τ) none Set.univ (read_block_sub i s hi hs)
  have e := read_block i s hi hs X
  exact e ▸ h

theorem load_Y (c : Dev nD) {α : Type} (Q : α → sProp 𝕄) (i : Nat) (hi : i < 4) {off size : Fin 3 → Nat} (inb : ∀ a, off a + size a ≤ S4x22x8192.size a) (h0 : off 0 = i) (h1 : size 0 = 1)
    (Y : S4x22x8192.Idx → F .f32)
    {hl : MY.view.LoadsAt (Rect.unit (s := S4x22x8192) off size inb).toLoadRect}
    (k : ((Rect.unit (s := S4x22x8192) off size inb).shape.Idx → Elt F .f32) → Prog (TpuEff nD τ sig (Elt F) Λ₀ .tc) α) :
    atY c i hi Y ⊢ iprop((∀ v, atY c i hi Y -∗ WP c (k v) Q)
      -∗ WP c (.op (.load MY (Rect.unit (s := S4x22x8192) off size inb).toLoadRect hl) k) Q) := by
  have h := wp_load_rect (Γ := PendingWaitsCtx.empty) (defs := defs₀ (F := F)) (Q := Q) (q := fullShare) (f := Y) (k := k) (hl := hl) Variants.none (c : Thread nD τ) none Set.univ (boxY_sub i hi inb h0 h1)
  exact h.trans (wand_mono_left (forall_elim _))

theorem store_Y (c : Dev nD) {α : Type} (Q : α → sProp 𝕄) (i : Nat) (hi : i < 4) {off size : Fin 3 → Nat} (inb : ∀ a, off a + size a ≤ S4x22x8192.size a) (h0 : off 0 = i) (h1 : size 0 = 1)
    (Y : S4x22x8192.Idx → F .f32) (w : (⟨3, size⟩ : Shape).Idx → F .f32)
    {hx : (MY.access (Rect.unit (s := S4x22x8192) off size inb)).Stores Finset.univ} {hm}
    (k : PUnit → Prog (TpuEff nD τ sig (Elt F) Λ₀ .tc) α) :
    atY c i hi Y ⊢ iprop((atY c i hi (putY inb Y w) -∗ WP c (k ⟨⟩) Q)
      -∗ WP c (.op (.store MY (Rect.unit (s := S4x22x8192) off size inb) w Finset.univ hx hm) k) Q) :=
  wp_store (defs := defs₀ (F := F)) (Q := Q) (f := Y) (k := k) (hx := hx) Variants.none (c : Thread nD τ) none Set.univ (boxY_sub i hi inb h0 h1)

end Access

section Step

variable (w1 : Vec F S64x128 .f32) (b1 : FVec F S1x64 .f32) (w2 : Vec F S24x64 .f32) (b2 : Vec F S24x1 .f32)
  (X : S4x8192x128.Idx → F .f32)

/-- The result buffer's slab `i`, right in its first `n` blocks. -/
def upto (c : Dev nD) (i n : Nat) (hi : i < 4) : sProp 𝕄 :=
  iprop(∃ f, ⌜Upto (result w1 b1 w2 b2 X) i n f⌝ ∗ atY c i hi f)

theorem step_spec (c : Dev nD) (i s : Nat) (hi : i < 4) (hs : s < 8) {α : Type}
    (k : PUnit → Prog (TpuEff nD τ sig (Elt F) Λ₀ .tc) α) (Q : α → sProp 𝕄) :
    iprop(atX c i hi X ∗ upto w1 b1 w2 b2 X c i s hi)
      ⊢ iprop((iprop(atX c i hi X ∗ upto w1 b1 w2 b2 X c i (s + 1) hi) -∗ WP c (k ⟨⟩) Q)
        -∗ WP c (step MX MY w1 b1 w2 b2 i s hi hs >>= k) Q) := by
  unfold upto step
  iintro ⟨HX, %f, %hf, HY⟩ Hk
  simp only [Prog.bind_lift, Prog.bind_op, Prog.bind_ret, Prog.bind_assoc]
  iapply (load_X c Q i s hi hs X) $$ HX
  iintro HX
  iapply (load_Y c Q i hi _ rfl rfl _) $$ HY
  iintro %v HY
  iapply (store_Y c Q i hi _ rfl rfl _) $$ HY
  iintro HY
  iapply (load_Y c Q i hi _ rfl rfl _) $$ HY
  iintro %v HY
  iapply (store_Y c Q i hi _ rfl rfl _) $$ HY
  iintro HY
  iapply (load_Y c Q i hi _ rfl rfl _) $$ HY
  iintro %v HY
  iapply (store_Y c Q i hi _ rfl rfl _) $$ HY
  iintro HY
  iapply Hk
  isplitl [HX]; · iexact HX
  iexists _
  isplitr
  · ipureintro; exact Upto.step w1 b1 w2 b2 X i s hi hs f hf
  iexact HY

/-- The first `n` sub-steps of chunk `i`. -/
theorem steps_spec (c : Dev nD) (i : Nat) (hi : i < 4) : ∀ (n : Nat) (hn : n ≤ 8) {α : Type}
    (k : PUnit → Prog (TpuEff nD τ sig (Elt F) Λ₀ .tc) α) (Q : α → sProp 𝕄),
    iprop(atX c i hi X ∗ upto w1 b1 w2 b2 X c i 0 hi)
      ⊢ iprop((iprop(atX c i hi X ∗ upto w1 b1 w2 b2 X c i n hi) -∗ WP c (k ⟨⟩) Q)
        -∗ WP c (steps MX MY w1 b1 w2 b2 i hi n hn >>= k) Q)
  | 0, _, _, k, Q => by
    unfold steps
    rw [Prog.pure_eq_ret, Prog.bind_ret]
    iintro H Hk
    iapply Hk
    iexact H
  | n + 1, hn, _, k, Q => by
    unfold steps
    rw [Prog.bind_assoc]
    iintro H Hk
    iapply (steps_spec c i hi n (Nat.le_of_succ_le hn) (fun _ => step MX MY w1 b1 w2 b2 i n hi hn >>= k) Q) $$ H
    iintro H
    iapply (step_spec w1 b1 w2 b2 X c i n hi hn k Q) $$ H
    iexact Hk

/-- All eight: the result buffer's slab holds the result. -/
theorem eight_spec (c : Dev nD) (i : Nat) (hi : i < 4) {α : Type}
    (k : PUnit → Prog (TpuEff nD τ sig (Elt F) Λ₀ .tc) α) (Q : α → sProp 𝕄) :
    iprop(atX c i hi X ∗ (∃ f, atY c i hi f))
      ⊢ iprop((iprop(atX c i hi X ∗ atY c i hi (result w1 b1 w2 b2 X)) -∗ WP c (k ⟨⟩) Q)
        -∗ WP c (steps MX MY w1 b1 w2 b2 i hi 8 (Nat.le_refl 8) >>= k) Q) := by
  iintro ⟨HX, %f, HY⟩ Hk
  iapply (steps_spec w1 b1 w2 b2 X c i hi 8 (Nat.le_refl 8) k Q) $$ [HX HY]
  · isplitl [HX]; · iexact HX
    unfold upto
    iexists f
    isplitr
    · ipureintro; intro j _ h; exact absurd h (by omega)
    iexact HY
  unfold upto
  iintro ⟨HX, %g, %hg, HY⟩
  iapply Hk
  isplitl [HX]; · iexact HX
  have e : (atY c i hi g : sProp 𝕄) = atY c i hi (result w1 b1 w2 b2 X) :=
    atY_congr c i hi fun j hj => hg j hj (j 2).isLt
  iapply (Entails.of_eq e) $$ HY

end Step

/-! ## The copies -/

/-- The units a copy of a slab of tokens, and of a slab of the result, counts on its cell. -/
abbrev unitsX (i : Nat) (hi : i < 4) : ℕ := (slabX MX i hi).view.dmaCredit
abbrev unitsO (i : Nat) (hi : i < 4) : ℕ := (slabY MO i hi).view.dmaCredit

/-- Copy `i` in and copy `i` out, in flight: what each delivers. -/
abbrev flyX (c : Dev nD) (i : Nat) (hi : i < 4) (X : S4x8192x128.Idx → F .f32) : sProp 𝕄 :=
  Transfers.Flight (countersEmb (U := Pipeline.UD sig nD τ)) (c : Thread nD τ) (.dma (cell cc0_scratch4 i hi)) () (unitsX i hi)
    iprop(atX c i hi X ∗ atA c i hi X)
abbrev flyO (c : Dev nD) (i : Nat) (hi : i < 4) (Y : S4x22x8192.Idx → F .f32) : sProp 𝕄 :=
  Transfers.Flight (countersEmb (U := Pipeline.UD sig nD τ)) (c : Thread nD τ) (.dma (cell cc0_scratch5 i hi)) () (unitsO i hi)
    iprop(atO c i hi Y ∗ atY c i hi Y)

/-- Copy `i` in is started. -/
theorem startIn_spec (c : Dev nD) (i : Nat) (hi : i < 4) (X : S4x8192x128.Idx → F .f32) {α : Type}
    (k : PUnit → Prog (TpuEff nD τ sig (Elt F) Λ₀ .tc) α) (Q : α → sProp 𝕄) :
    iprop(atA c i hi X ∗ (∃ f, atX c i hi f) ∗ semVal ((c : Thread nD τ), .dma (cell cc0_scratch4 i hi)) 0)
      ⊢ iprop((flyX c i hi X -∗ WP c (k ⟨⟩) Q) -∗ WP c (startIn MA MX cc0_scratch4 i hi >>= k) Q) := by
  have h : ∀ f : S4x8192x128.Idx → F .f32, iprop(atA c i hi X ∗ atX c i hi f ∗ semVal ((c : Thread nD τ), .dma (cell cc0_scratch4 i hi)) 0)
      ⊢ iprop((Transfers.Flight (countersEmb (U := Pipeline.UD sig nD τ)) (c : Thread nD τ) (.dma (cell cc0_scratch4 i hi)) () (unitsX i hi)
          iprop(atX c i hi ((slabX MX i hi).view.write (Elt F) f (ReadAs.same.apply ((slabX MA i hi).view.read (Elt F) X)) Finset.univ)
            ∗ atA c i hi X) -∗ WP c (k ⟨⟩) Q) -∗ WP c (startIn MA MX cc0_scratch4 i hi >>= k) Q) :=
    fun f => Transfers.wp_dmaLocal (Val := Elt F) (Lvl := ℕ) (defs := defs₀ (F := F)) (countersEmb (U := Pipeline.UD sig nD τ)) Variants.none (c : Thread nD τ) none
      (Q := Q) (k := k) (q := fullShare) (fs := X) (fd := f) (via := ReadAs.same) (src := slabX MA i hi) (dst := slabX MX i hi)
      (Sd := (slabX MX i hi).view.set) (sm := .dma (cell cc0_scratch4 i hi))
      (hsrc := (View.wordExact_bits rfl).reshape _ _) (hdst := (View.wordExact_bits rfl).reshape _ _) (hsem := ⟨Or.inl rfl, trivial⟩)
      () (unitsX i hi) rfl (View.dmaCredit_pos _ (by decide)) (Finset.Subset.refl _)
  iintro ⟨HA, ⟨%f, HX⟩, Hs⟩ Hk
  have h' := h f
  rw [atX_congr c i hi (landX i hi f X)] at h'
  iapply h' $$ [HA HX Hs]
  · isplitl [HA]; · iexact HA
    isplitl [HX]; · iexact HX
    iexact Hs
  iexact Hk

/-- Copy `i` in is waited for: the token buffer's slab holds the tokens. -/
theorem waitIn_spec (c : Dev nD) (i : Nat) (hi : i < 4) (X : S4x8192x128.Idx → F .f32) (W : Waits sig Unit) {α : Type}
    (k : PUnit → Prog (TpuEff nD τ sig (Elt F) Λ₀ .tc) α) (Q : α → sProp 𝕄) :
    iprop(flyX c i hi X ∗ owes (c : Thread nD τ) 0 W)
      ⊢ iprop((iprop((∃ W', owes (c : Thread nD τ) 0 W') ∗ atX c i hi X ∗ atA c i hi X ∗ semVal ((c : Thread nD τ), .dma (cell cc0_scratch4 i hi)) 0) -∗ WP c (k ⟨⟩) Q)
        -∗ WP c (waitIn MA MX cc0_scratch4 i hi >>= k) Q) := by
  have h : iprop(flyX c i hi X ∗ owes (c : Thread nD τ) 0 W)
      ⊢ iprop((iprop(iprop(atX c i hi X ∗ atA c i hi X) ∗ semVal ((c : Thread nD τ), .dma (cell cc0_scratch4 i hi)) 0
          ∗ owes (c : Thread nD τ) 0 (insert (SemLoc.dma (cell cc0_scratch4 i hi), ()) W)) -∗ WP c (k ⟨⟩) Q) -∗ WP c (waitIn MA MX cc0_scratch4 i hi >>= k) Q) :=
    Transfers.wp_waitLocal (Val := Elt F) (Lvl := ℕ) (defs := defs₀ (F := F)) (countersEmb (U := Pipeline.UD sig nD τ)) Variants.none (c : Thread nD τ) none
      (Q := Q) (k := k) (srcw := slabX MA i hi) (dstw := slabX MX i hi)
      (hsrc := (View.wordExact_bits rfl).reshape _ _) (hdst := (View.wordExact_bits rfl).reshape _ _) () rfl
  iintro H Hk
  iapply h $$ H
  iintro ⟨⟨HB, HA⟩, Hs, HW⟩
  iapply Hk
  isplitl [HW]; · iexists _; iexact HW
  isplitl [HB]; · iexact HB
  isplitl [HA]; · iexact HA
  iexact Hs

/-- Copy `i` out is started. -/
theorem startOut_spec (c : Dev nD) (i : Nat) (hi : i < 4) (X : S4x22x8192.Idx → F .f32) {α : Type}
    (k : PUnit → Prog (TpuEff nD τ sig (Elt F) Λ₀ .tc) α) (Q : α → sProp 𝕄) :
    iprop(atY c i hi X ∗ (∃ f, atO c i hi f) ∗ semVal ((c : Thread nD τ), .dma (cell cc0_scratch5 i hi)) 0)
      ⊢ iprop((flyO c i hi X -∗ WP c (k ⟨⟩) Q) -∗ WP c (startOut MO MY cc0_scratch5 i hi >>= k) Q) := by
  have h : ∀ f : S4x22x8192.Idx → F .f32, iprop(atY c i hi X ∗ atO c i hi f ∗ semVal ((c : Thread nD τ), .dma (cell cc0_scratch5 i hi)) 0)
      ⊢ iprop((Transfers.Flight (countersEmb (U := Pipeline.UD sig nD τ)) (c : Thread nD τ) (.dma (cell cc0_scratch5 i hi)) () (unitsO i hi)
          iprop(atO c i hi ((slabY MO i hi).view.write (Elt F) f (ReadAs.same.apply ((slabY MY i hi).view.read (Elt F) X)) Finset.univ)
            ∗ atY c i hi X) -∗ WP c (k ⟨⟩) Q) -∗ WP c (startOut MO MY cc0_scratch5 i hi >>= k) Q) :=
    fun f => Transfers.wp_dmaLocal (Val := Elt F) (Lvl := ℕ) (defs := defs₀ (F := F)) (countersEmb (U := Pipeline.UD sig nD τ)) Variants.none (c : Thread nD τ) none
      (Q := Q) (k := k) (q := fullShare) (fs := X) (fd := f) (via := ReadAs.same) (src := slabY MY i hi) (dst := slabY MO i hi)
      (Sd := (slabY MO i hi).view.set) (sm := .dma (cell cc0_scratch5 i hi))
      (hsrc := (View.wordExact_bits rfl).reshape _ _) (hdst := (View.wordExact_bits rfl).reshape _ _) (hsem := ⟨Or.inl rfl, trivial⟩)
      () (unitsO i hi) rfl (View.dmaCredit_pos _ (by decide)) (Finset.Subset.refl _)
  iintro ⟨HA, ⟨%f, HX⟩, Hs⟩ Hk
  have h' := h f
  rw [atO_congr c i hi (landY i hi f X)] at h'
  iapply h' $$ [HA HX Hs]
  · isplitl [HA]; · iexact HA
    isplitl [HX]; · iexact HX
    iexact Hs
  iexact Hk

/-- Copy `i` out is waited for: the result's slab holds what the buffer's did. -/
theorem waitOut_spec (c : Dev nD) (i : Nat) (hi : i < 4) (X : S4x22x8192.Idx → F .f32) (W : Waits sig Unit) {α : Type}
    (k : PUnit → Prog (TpuEff nD τ sig (Elt F) Λ₀ .tc) α) (Q : α → sProp 𝕄) :
    iprop(flyO c i hi X ∗ owes (c : Thread nD τ) 0 W)
      ⊢ iprop((iprop((∃ W', owes (c : Thread nD τ) 0 W') ∗ atO c i hi X ∗ atY c i hi X ∗ semVal ((c : Thread nD τ), .dma (cell cc0_scratch5 i hi)) 0) -∗ WP c (k ⟨⟩) Q)
        -∗ WP c (waitOut MO MY cc0_scratch5 i hi >>= k) Q) := by
  have h : iprop(flyO c i hi X ∗ owes (c : Thread nD τ) 0 W)
      ⊢ iprop((iprop(iprop(atO c i hi X ∗ atY c i hi X) ∗ semVal ((c : Thread nD τ), .dma (cell cc0_scratch5 i hi)) 0
          ∗ owes (c : Thread nD τ) 0 (insert (SemLoc.dma (cell cc0_scratch5 i hi), ()) W)) -∗ WP c (k ⟨⟩) Q) -∗ WP c (waitOut MO MY cc0_scratch5 i hi >>= k) Q) :=
    Transfers.wp_waitLocal (Val := Elt F) (Lvl := ℕ) (defs := defs₀ (F := F)) (countersEmb (U := Pipeline.UD sig nD τ)) Variants.none (c : Thread nD τ) none
      (Q := Q) (k := k) (srcw := slabY MY i hi) (dstw := slabY MO i hi)
      (hsrc := (View.wordExact_bits rfl).reshape _ _) (hdst := (View.wordExact_bits rfl).reshape _ _) () rfl
  iintro H Hk
  iapply h $$ H
  iintro ⟨⟨HB, HA⟩, Hs, HW⟩
  iapply Hk
  isplitl [HW]; · iexists _; iexact HW
  isplitl [HB]; · iexact HB
  isplitl [HA]; · iexact HA
  iexact Hs

/-! ## The program from the weights on -/

section Rest

variable (w1 : Vec F S64x128 .f32) (b1 : FVec F S1x64 .f32) (w2 : Vec F S24x64 .f32) (b2 : Vec F S24x1 .f32)
  (X : S4x8192x128.Idx → F .f32)

/-- One chunk: its slab of results computed and on its way out. -/
theorem chunk_spec (c : Dev nD) (i : Nat) (hi : i < 4) {α : Type}
    (k : PUnit → Prog (TpuEff nD τ sig (Elt F) Λ₀ .tc) α) (Q : α → sProp 𝕄) :
    iprop(atX c i hi X ∗ (∃ f, atY c i hi f) ∗ (∃ f, atO c i hi f) ∗ semVal ((c : Thread nD τ), .dma (cell cc0_scratch5 i hi)) 0)
      ⊢ iprop((iprop(atX c i hi X ∗ flyO c i hi (result w1 b1 w2 b2 X)) -∗ WP c (k ⟨⟩) Q)
        -∗ WP c (chunk MO MX MY cc0_scratch5 w1 b1 w2 b2 i hi >>= k) Q) := by
  unfold chunk
  rw [Prog.bind_assoc]
  iintro ⟨HX, HY, HO, Hs⟩ Hk
  iapply (eight_spec w1 b1 w2 b2 X c i hi (fun _ => startOut MO MY cc0_scratch5 i hi >>= k) Q) $$ [HX HY]
  · isplitl [HX]; · iexact HX
    iexact HY
  iintro ⟨HX, HY⟩
  iapply (startOut_spec c i hi (result w1 b1 w2 b2 X) k Q) $$ [HY HO Hs]
  · isplitl [HY]; · iexact HY
    isplitl [HO]; · iexact HO
    iexact Hs
  iintro HF
  iapply Hk
  isplitl [HX]; · iexact HX
  iexact HF

/-- What the device holds of slab `i` before the copies, -/
def before (c : Dev nD) (i : Nat) (hi : i < 4) : sProp 𝕄 :=
  iprop(atA c i hi X ∗ (∃ f, atX c i hi f) ∗ (∃ f, atY c i hi f) ∗ (∃ f, atO c i hi f)
    ∗ semVal ((c : Thread nD τ), .dma (cell cc0_scratch4 i hi)) 0 ∗ semVal ((c : Thread nD τ), .dma (cell cc0_scratch5 i hi)) 0)

/-- and after them, the result's slab holding `Y`. -/
def after (Y : S4x22x8192.Idx → F .f32) (c : Dev nD) (i : Nat) (hi : i < 4) : sProp 𝕄 :=
  iprop(atA c i hi X ∗ atX c i hi X ∗ atY c i hi Y ∗ atO c i hi Y
    ∗ semVal ((c : Thread nD τ), .dma (cell cc0_scratch4 i hi)) 0 ∗ semVal ((c : Thread nD τ), .dma (cell cc0_scratch5 i hi)) 0)

set_option maxHeartbeats 4000000 in
theorem rest_spec (c : Dev nD) (W : Waits sig Unit) (Q : PUnit → sProp 𝕄) :
    iprop(before X c 0 (by decide) ∗ before X c 1 (by decide) ∗ before X c 2 (by decide) ∗ before X c 3 (by decide) ∗ owes (c : Thread nD τ) 0 W)
      ⊢ iprop((iprop((∃ W', owes (c : Thread nD τ) 0 W') ∗ after X (result w1 b1 w2 b2 X) c 0 (by decide) ∗ after X (result w1 b1 w2 b2 X) c 1 (by decide)
          ∗ after X (result w1 b1 w2 b2 X) c 2 (by decide) ∗ after X (result w1 b1 w2 b2 X) c 3 (by decide)) -∗ Q ⟨⟩)
        -∗ WP c (rest MA MO MX MY cc0_scratch4 cc0_scratch5 w1 b1 w2 b2) Q) := by
  unfold before after rest
  iintro ⟨⟨A0, X0, Y0, O0, S0, T0⟩, ⟨A1, X1, Y1, O1, S1, T1⟩, ⟨A2, X2, Y2, O2, S2, T2⟩, ⟨A3, X3, Y3, O3, S3, T3⟩, HW⟩ Hk
  iapply (startIn_spec c 0 _ X _ Q) $$ [A0 X0 S0]
  · isplitl [A0]; · iexact A0
    isplitl [X0]; · iexact X0
    iexact S0
  iintro F0
  iapply (startIn_spec c 1 _ X _ Q) $$ [A1 X1 S1]
  · isplitl [A1]; · iexact A1
    isplitl [X1]; · iexact X1
    iexact S1
  iintro F1
  iapply (startIn_spec c 2 _ X _ Q) $$ [A2 X2 S2]
  · isplitl [A2]; · iexact A2
    isplitl [X2]; · iexact X2
    iexact S2
  iintro F2
  iapply (waitIn_spec c 0 _ X _ _ Q) $$ [F0 HW]
  · isplitl [F0]; · iexact F0
    iexact HW
  iintro ⟨⟨%W0, HW⟩, X0, A0, S0⟩
  iapply (startIn_spec c 3 _ X _ Q) $$ [A3 X3 S3]
  · isplitl [A3]; · iexact A3
    isplitl [X3]; · iexact X3
    iexact S3
  iintro F3
  iapply (chunk_spec w1 b1 w2 b2 X c 0 _ _ Q) $$ [X0 Y0 O0 T0]
  · isplitl [X0]; · iexact X0
    isplitl [Y0]; · iexact Y0
    isplitl [O0]; · iexact O0
    iexact T0
  iintro ⟨X0, G0⟩
  iapply (waitIn_spec c 1 _ X _ _ Q) $$ [F1 HW]
  · isplitl [F1]; · iexact F1
    iexact HW
  iintro ⟨⟨%W1, HW⟩, X1, A1, S1⟩
  iapply (chunk_spec w1 b1 w2 b2 X c 1 _ _ Q) $$ [X1 Y1 O1 T1]
  · isplitl [X1]; · iexact X1
    isplitl [Y1]; · iexact Y1
    isplitl [O1]; · iexact O1
    iexact T1
  iintro ⟨X1, G1⟩
  iapply (waitIn_spec c 2 _ X _ _ Q) $$ [F2 HW]
  · isplitl [F2]; · iexact F2
    iexact HW
  iintro ⟨⟨%W2, HW⟩, X2, A2, S2⟩
  iapply (chunk_spec w1 b1 w2 b2 X c 2 _ _ Q) $$ [X2 Y2 O2 T2]
  · isplitl [X2]; · iexact X2
    isplitl [Y2]; · iexact Y2
    isplitl [O2]; · iexact O2
    iexact T2
  iintro ⟨X2, G2⟩
  iapply (waitIn_spec c 3 _ X _ _ Q) $$ [F3 HW]
  · isplitl [F3]; · iexact F3
    iexact HW
  iintro ⟨⟨%W3, HW⟩, X3, A3, S3⟩
  iapply (chunk_spec w1 b1 w2 b2 X c 3 _ _ Q) $$ [X3 Y3 O3 T3]
  · isplitl [X3]; · iexact X3
    isplitl [Y3]; · iexact Y3
    isplitl [O3]; · iexact O3
    iexact T3
  iintro ⟨X3, G3⟩
  iapply (waitOut_spec c 0 _ _ _ _ Q) $$ [G0 HW]
  · isplitl [G0]; · iexact G0
    iexact HW
  iintro ⟨⟨%V0, HW⟩, O0, Y0, T0⟩
  iapply (waitOut_spec c 1 _ _ _ _ Q) $$ [G1 HW]
  · isplitl [G1]; · iexact G1
    iexact HW
  iintro ⟨⟨%V1, HW⟩, O1, Y1, T1⟩
  iapply (waitOut_spec c 2 _ _ _ _ Q) $$ [G2 HW]
  · isplitl [G2]; · iexact G2
    iexact HW
  iintro ⟨⟨%V2, HW⟩, O2, Y2, T2⟩
  rw [← Prog.bind_pure (waitOut MO MY cc0_scratch5 3 _)]
  iapply (waitOut_spec c 3 _ _ _ _ Q) $$ [G3 HW]
  · isplitl [G3]; · iexact G3
    iexact HW
  iintro ⟨⟨%V3, HW⟩, O3, Y3, T3⟩
  iapply (le_wp_ret (Fr := frame) (wpE := wpE (defs₀ (F := F)) Variants.none (c : Thread nD τ) none) _ PUnit.unit Q)
  iapply Hk
  isplitl [HW]; · iexists _; iexact HW
  isplitl [A0 X0 Y0 O0 S0 T0]
  · isplitl [A0]; · iexact A0
    isplitl [X0]; · iexact X0
    isplitl [Y0]; · iexact Y0
    isplitl [O0]; · iexact O0
    isplitl [S0]; · iexact S0
    iexact T0
  isplitl [A1 X1 Y1 O1 S1 T1]
  · isplitl [A1]; · iexact A1
    isplitl [X1]; · iexact X1
    isplitl [Y1]; · iexact Y1
    isplitl [O1]; · iexact O1
    isplitl [S1]; · iexact S1
    iexact T1
  isplitl [A2 X2 Y2 O2 S2 T2]
  · isplitl [A2]; · iexact A2
    isplitl [X2]; · iexact X2
    isplitl [Y2]; · iexact Y2
    isplitl [O2]; · iexact O2
    isplitl [S2]; · iexact S2
    iexact T2
  isplitl [A3]; · iexact A3
  isplitl [X3]; · iexact X3
  isplitl [Y3]; · iexact Y3
  isplitl [O3]; · iexact O3
  isplitl [S3]; · iexact S3
  iexact T3

end Rest

end Cert.KernelIdeal.Hand

end
-- ==== Proof.Ideal.Whole.lean ====
/-
  The body's triple on whole buffers: the prologue, then the rest with each of the four-slab buffers cut in its slabs
  and joined again.
-/
module

public import proofs.«01_k».proof.Proof.Ideal.Body

@[expose] public section

set_option maxRecDepth 65536
set_option backward.isDefEq.respectTransparency.types false

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The staging buffers of the two layers' weights and biases. -/
abbrev N1 : Memref sig .tc .vmem S64x128 .f32 := Memref.whole cc0_stg0_0
abbrev N2 : Memref sig .tc .vmem S64 .f32 := Memref.whole cc0_stg1_0
abbrev N3 : Memref sig .tc .vmem S22x64 .f32 := Memref.whole cc0_stg2_0
abbrev N4 : Memref sig .tc .vmem S22 .f32 := Memref.whole cc0_stg3_0

/-- A memref's buffer held whole at contents. -/
abbrev held (c : Dev nD) {sp : Space} {s : Shape} {e : EltTy} (M : Memref sig .tc sp s e)
    (f : Buf (Elt F) (M.view.loc (c : Thread nD τ))) : sProp 𝕄 :=
  M.view.loc (c : Thread nD τ) ↦{fullShare} f

section Access

variable {s : Shape} {e : EltTy}

theorem load_held (c : Dev nD) {α : Type} (Q : α → sProp 𝕄) (M : Memref sig .tc .vmem s e) (r : Rect s)
    (f : Buf (Elt F) (M.view.loc (c : Thread nD τ))) {hl : M.view.LoadsAt r.toLoadRect}
    (k : (r.shape.Idx → Elt F e) → Prog (TpuEff nD τ sig (Elt F) Λ₀ .tc) α) :
    held c M f ⊢ iprop((held c M f -∗ WP c (k ((M.access r).read (Elt F) f)) Q)
      -∗ WP c (.op (.load M r.toLoadRect hl) k) Q) :=
  wp_load_rect (Γ := PendingWaitsCtx.empty) (defs := defs₀ (F := F)) (Q := Q) (q := fullShare) (f := f) (k := k) (hl := hl) Variants.none (c : Thread nD τ) none Set.univ (Finset.subset_univ _)

theorem store_held (c : Dev nD) {α : Type} (Q : α → sProp 𝕄) (M : Memref sig .tc .vmem s e) (r : Rect s)
    (f : Buf (Elt F) (M.view.loc (c : Thread nD τ))) (w : r.shape.Idx → Elt F e)
    {hx : (M.access r).Stores Finset.univ} {hm} (k : PUnit → Prog (TpuEff nD τ sig (Elt F) Λ₀ .tc) α) :
    held c M f ⊢ iprop((held c M ((M.access r).write (Elt F) f w Finset.univ) -∗ WP c (k ⟨⟩) Q)
      -∗ WP c (.op (.store M r w Finset.univ hx hm) k) Q) :=
  wp_store (defs := defs₀ (F := F)) (Q := Q) (f := f) (k := k) (hx := hx) Variants.none (c : Thread nD τ) none Set.univ (Finset.subset_univ _)

end Access

section Reads

theorem read_N1 (f : S64x128.Idx → F .f32) :
    (N1.access (Rect.unit (s := S64x128) ![0, 0] S64x128.size inb_S64x128_S64x128_0_0)).read (Elt F) f = f :=
  Memref.read_access_unit_zero (Elt F) cc0_stg0_0 (by funext a; fin_cases a <;> rfl) _ f
theorem read_N2 (f : S64.Idx → F .f32) :
    (N2.access (Rect.unit (s := S64) ![0] S64.size inb_S64_S64_0)).read (Elt F) f = f :=
  Memref.read_access_unit_zero (Elt F) cc0_stg1_0 (by funext a; fin_cases a <;> rfl) _ f
theorem read_N3 (f : S22x64.Idx → F .f32) :
    (N3.access (Rect.unit (s := S22x64) ![0, 0] S22x64.size inb_S22x64_S22x64_0_0)).read (Elt F) f = f :=
  Memref.read_access_unit_zero (Elt F) cc0_stg2_0 (by funext a; fin_cases a <;> rfl) _ f
theorem read_N4 (f : S22.Idx → F .f32) :
    (N4.access (Rect.unit (s := S22) ![0] S22.size inb_S22_S22_0)).read (Elt F) f = f :=
  Memref.read_access_unit_zero (Elt F) cc0_stg3_0 (by funext a; fin_cases a <;> rfl) _ f

end Reads

set_option maxHeartbeats 4000000 in
/-- The prologue reads the first layer as staged and hands on the second layer padded with zeros. -/
theorem prologue_spec (c : Dev nD) (f1 : S64x128.Idx → F .f32) (f2 : S64.Idx → F .f32) (f3 : S22x64.Idx → F .f32) (f4 : S22.Idx → F .f32)
    (f8 : S24x64.Idx → F .f32) (f9 : S24x1.Idx → F .f32) {α : Type}
    (k : (Σ' (_ : Vec F S64x128 .f32) (_ : FVec F S1x64 .f32) (_ : Vec F S24x64 .f32), Vec F S24x1 .f32) → Prog (TpuEff nD τ sig (Elt F) Λ₀ .tc) α)
    (Q : α → sProp 𝕄) :
    iprop(held c N1 f1 ∗ held c N2 f2 ∗ held c N3 f3 ∗ held c N4 f4 ∗ held c MW f8 ∗ held c MB f9)
      ⊢ iprop((iprop(held c N1 f1 ∗ held c N2 f2 ∗ held c N3 f3 ∗ held c N4 f4 ∗ (∃ f, held c MW f) ∗ (∃ f, held c MB f))
          -∗ WP c (k ⟨f1, k0_pay1 f2, padW f3, padB f4⟩) Q)
        -∗ WP c (prologue N1 N2 N3 N4 MW MB >>= k) Q) := by
  unfold prologue
  iintro ⟨H1, H2, H3, H4, H8, H9⟩ Hk
  simp only [Prog.bind_lift, Prog.bind_op, Prog.bind_ret, Prog.bind_assoc]
  iapply (load_held c Q N1 _ f1) $$ H1
  iintro H1
  iapply (load_held c Q N2 _ f2) $$ H2
  iintro H2
  iapply (load_held c Q MW _ _) $$ H8
  iintro H8
  iapply (store_held c Q MW _ _ _) $$ H8
  iintro H8
  iapply (load_held c Q N3 _ f3) $$ H3
  iintro H3
  iapply (load_held c Q MW _ _) $$ H8
  iintro H8
  iapply (store_held c Q MW _ _ _) $$ H8
  iintro H8
  iapply (load_held c Q MB _ _) $$ H9
  iintro H9
  iapply (store_held c Q MB _ _ _) $$ H9
  iintro H9
  iapply (load_held c Q N4 _ f4) $$ H4
  iintro H4
  iapply (load_held c Q MB _ _) $$ H9
  iintro H9
  iapply (store_held c Q MB _ _ _) $$ H9
  iintro H9
  iapply (load_held c Q MW _ _) $$ H8
  iintro H8
  iapply (load_held c Q MB _ _) $$ H9
  iintro H9
  have e1 := read_N1 f1
  have e2 := read_N2 f2
  have e3 := read_N3 f3
  have e4 := read_N4 f4
  have eW := read_padW f8 f3
  have eB := read_padB f9 f4
  rw [e1, e2, e3, e4, eW, eB]
  iapply Hk
  isplitl [H1]; · iexact H1
  isplitl [H2]; · iexact H2
  isplitl [H3]; · iexact H3
  isplitl [H4]; · iexact H4
  isplitl [H8]; · iexists _; iexact H8
  iexists _; iexact H9

/-! ## A four-slab buffer cut in its slabs -/

section Slabs

theorem cutX {sp : Space} (M : Memref sig .tc sp S4x8192x128 .f32) (hM : ∀ j, ∃ i, M.view.emb i = j) (c : Dev nD) (f : Buf (Elt F) (M.view.loc (c : Thread nD τ))) :
    (held c M f : sProp 𝕄) = bigSep Finset.univ fun i : Fin 4 =>
      (M.view.loc (c : Thread nD τ) ↦[(slabX M i.val i.isLt).view.set]{fullShare} f) := by
  refine Ring.pointsTo_blocks (ℓ := M.view.loc (c : Thread nD τ)) (fun i : Fin 4 => (slabX M i.val i.isLt).view.set) ?_ ?_ f
  · intro a b hab
    refine Finset.disjoint_left.mpr fun j h1 h2 => ?_
    obtain ⟨i, hi⟩ := hM j
    subst hi
    exact hab (Fin.ext (((mem_slabX M _ _ i).mp h1).symm.trans ((mem_slabX M _ _ i).mp h2)))
  · refine Finset.eq_univ_iff_forall.mpr fun j => ?_
    obtain ⟨i, hi⟩ := hM j
    subst hi
    exact Finset.mem_biUnion.mpr ⟨(i 0 : Fin 4), Finset.mem_univ _, (mem_slabX M _ _ i).mpr rfl⟩

theorem cutY {sp : Space} (M : Memref sig .tc sp S4x22x8192 .f32) (hM : ∀ j, ∃ i, M.view.emb i = j) (c : Dev nD) (f : Buf (Elt F) (M.view.loc (c : Thread nD τ))) :
    (held c M f : sProp 𝕄) = bigSep Finset.univ fun i : Fin 4 =>
      (M.view.loc (c : Thread nD τ) ↦[(slabY M i.val i.isLt).view.set]{fullShare} f) := by
  refine Ring.pointsTo_blocks (ℓ := M.view.loc (c : Thread nD τ)) (fun i : Fin 4 => (slabY M i.val i.isLt).view.set) ?_ ?_ f
  · intro a b hab
    refine Finset.disjoint_left.mpr fun j h1 h2 => ?_
    obtain ⟨i, hi⟩ := hM j
    subst hi
    exact hab (Fin.ext (((mem_slabY M _ _ i).mp h1).symm.trans ((mem_slabY M _ _ i).mp h2)))
  · refine Finset.eq_univ_iff_forall.mpr fun j => ?_
    obtain ⟨i, hi⟩ := hM j
    subst hi
    exact Finset.mem_biUnion.mpr ⟨(i 0 : Fin 4), Finset.mem_univ _, (mem_slabY M _ _ i).mpr rfl⟩

theorem listed (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

theorem cutA (c : Dev nD) (f : S4x8192x128.Idx → F .f32) :
    (held c MA f : sProp 𝕄) = iprop(atA c 0 (by decide) f ∗ atA c 1 (by decide) f ∗ atA c 2 (by decide) f ∗ atA c 3 (by decide) f) :=
  (cutX MA (fun j => ⟨j, rfl⟩) c f).trans (listed _)
theorem cutXbuf (c : Dev nD) (f : S4x8192x128.Idx → F .f32) :
    (held c MX f : sProp 𝕄) = iprop(atX c 0 (by decide) f ∗ atX c 1 (by decide) f ∗ atX c 2 (by decide) f ∗ atX c 3 (by decide) f) :=
  (cutX MX (fun j => ⟨j, rfl⟩) c f).trans (listed _)
theorem cutYbuf (c : Dev nD) (f : S4x22x8192.Idx → F .f32) :
    (held c MY f : sProp 𝕄) = iprop(atY c 0 (by decide) f ∗ atY c 1 (by decide) f ∗ atY c 2 (by decide) f ∗ atY c 3 (by decide) f) :=
  (cutY MY (fun j => ⟨j, rfl⟩) c f).trans (listed _)
theorem cutO (c : Dev nD) (f : S4x22x8192.Idx → F .f32) :
    (held c MO f : sProp 𝕄) = iprop(atO c 0 (by decide) f ∗ atO c 1 (by decide) f ∗ atO c 2 (by decide) f ∗ atO c 3 (by decide) f) :=
  (cutY MO (fun j => ⟨j, rfl⟩) c f).trans (listed _)

end Slabs

/-- The eight semaphores at zero. -/
def cells0 (c : Dev nD) : sProp 𝕄 :=
  iprop(semVal ((c : Thread nD τ), SemLoc.dma 4) 0 ∗ semVal ((c : Thread nD τ), SemLoc.dma 5) 0
    ∗ semVal ((c : Thread nD τ), SemLoc.dma 6) 0 ∗ semVal ((c : Thread nD τ), SemLoc.dma 7) 0
    ∗ semVal ((c : Thread nD τ), SemLoc.dma 8) 0 ∗ semVal ((c : Thread nD τ), SemLoc.dma 9) 0
    ∗ semVal ((c : Thread nD τ), SemLoc.dma 10) 0 ∗ semVal ((c : Thread nD τ), SemLoc.dma 11) 0)

theorem cells0_eq (c : Dev nD) :
    (cells0 c : sProp 𝕄) = iprop(semVal ((c : Thread nD τ), .dma (cell cc0_scratch4 0 (by decide))) 0 ∗ semVal ((c : Thread nD τ), .dma (cell cc0_scratch4 1 (by decide))) 0
    ∗ semVal ((c : Thread nD τ), .dma (cell cc0_scratch4 2 (by decide))) 0 ∗ semVal ((c : Thread nD τ), .dma (cell cc0_scratch4 3 (by decide))) 0
    ∗ semVal ((c : Thread nD τ), .dma (cell cc0_scratch5 0 (by decide))) 0 ∗ semVal ((c : Thread nD τ), .dma (cell cc0_scratch5 1 (by decide))) 0
    ∗ semVal ((c : Thread nD τ), .dma (cell cc0_scratch5 2 (by decide))) 0 ∗ semVal ((c : Thread nD τ), .dma (cell cc0_scratch5 3 (by decide))) 0) := rfl

/-- The kernel's result from its operands. -/
def kernelValue (f1 : S64x128.Idx → F .f32) (f2 : S64.Idx → F .f32) (f3 : S22x64.Idx → F .f32) (f4 : S22.Idx → F .f32)
    (X : S4x8192x128.Idx → F .f32) : S4x22x8192.Idx → F .f32 :=
  result f1 (k0_pay1 f2) (padW f3) (padB f4) X

set_option maxHeartbeats 4000000 in
/-- The whole body, every buffer held whole: the operands come back as they were, the result holds `kernelValue`. -/
theorem body_spec (c : Dev nD) (W : Waits sig Unit) (f1 : S64x128.Idx → F .f32) (f2 : S64.Idx → F .f32) (f3 : S22x64.Idx → F .f32) (f4 : S22.Idx → F .f32)
    (X : S4x8192x128.Idx → F .f32) (Q : PUnit → sProp 𝕄) :
    iprop((held c N1 f1 ∗ held c N2 f2 ∗ held c N3 f3 ∗ held c N4 f4)
        ∗ ((∃ f, held c MX f) ∗ (∃ f, held c MY f) ∗ (∃ f, held c MW f) ∗ (∃ f, held c MB f))
        ∗ cells0 c ∗ held c MA X ∗ (∃ f, held c MO f) ∗ owes (c : Thread nD τ) 0 W)
      ⊢ iprop((iprop((held c N1 f1 ∗ held c N2 f2 ∗ held c N3 f3 ∗ held c N4 f4)
          ∗ ((∃ f, held c MX f) ∗ (∃ f, held c MY f) ∗ (∃ f, held c MW f) ∗ (∃ f, held c MB f))
          ∗ cells0 c ∗ held c MA X ∗ held c MO (kernelValue f1 f2 f3 f4 X) ∗ (∃ W', owes (c : Thread nD τ) 0 W')) -∗ Q ⟨⟩)
        -∗ WP c (body MA N1 N2 N3 N4 MO MX MY MW MB cc0_scratch4 cc0_scratch5) Q) := by
  iintro ⟨⟨H1, H2, H3, H4⟩, ⟨⟨%fX, HX⟩, ⟨%fY, HY⟩, ⟨%fW, H8⟩, ⟨%fB, H9⟩⟩, HC, HA, ⟨%fO, HO⟩, HW⟩ Hk
  unfold body
  iapply (prologue_spec c f1 f2 f3 f4 fW fB _ Q) $$ [H1 H2 H3 H4 H8 H9]
  · isplitl [H1]; · iexact H1
    isplitl [H2]; · iexact H2
    isplitl [H3]; · iexact H3
    isplitl [H4]; · iexact H4
    isplitl [H8]; · iexact H8
    iexact H9
  iintro ⟨H1, H2, H3, H4, H8, H9⟩
  ihave HA := (Entails.of_eq (cutA c X)) $$ HA
  icases HA with ⟨A0, A1, A2, A3⟩
  ihave HX := (Entails.of_eq (cutXbuf c fX)) $$ HX
  icases HX with ⟨X0, X1, X2, X3⟩
  ihave HY := (Entails.of_eq (cutYbuf c fY)) $$ HY
  icases HY with ⟨Y0, Y1, Y2, Y3⟩
  ihave HO := (Entails.of_eq (cutO c fO)) $$ HO
  icases HO with ⟨O0, O1, O2, O3⟩
  ihave HC := (Entails.of_eq (cells0_eq c)) $$ HC
  icases HC with ⟨S0, S1, S2, S3, T0, T1, T2, T3⟩
  iapply (rest_spec f1 (k0_pay1 f2) (padW f3) (padB f4) X c W Q) $$ [A0 A1 A2 A3 X0 X1 X2 X3 Y0 Y1 Y2 Y3 O0 O1 O2 O3 S0 S1 S2 S3 T0 T1 T2 T3 HW]
  · unfold before
    isplitl [A0 X0 Y0 O0 S0 T0]
    · isplitl [A0]; · iexact A0
      isplitl [X0]; · iexists _; iexact X0
      isplitl [Y0]; · iexists _; iexact Y0
      isplitl [O0]; · iexists _; iexact O0
      isplitl [S0]; · iexact S0
      iexact T0
    isplitl [A1 X1 Y1 O1 S1 T1]
    · isplitl [A1]; · iexact A1
      isplitl [X1]; · iexists _; iexact X1
      isplitl [Y1]; · iexists _; iexact Y1
      isplitl [O1]; · iexists _; iexact O1
      isplitl [S1]; · iexact S1
      iexact T1
    isplitl [A2 X2 Y2 O2 S2 T2]
    · isplitl [A2]; · iexact A2
      isplitl [X2]; · iexists _; iexact X2
      isplitl [Y2]; · iexists _; iexact Y2
      isplitl [O2]; · iexists _; iexact O2
      isplitl [S2]; · iexact S2
      iexact T2
    isplitl [A3 X3 Y3 O3 S3 T3]
    · isplitl [A3]; · iexact A3
      isplitl [X3]; · iexists _; iexact X3
      isplitl [Y3]; · iexists _; iexact Y3
      isplitl [O3]; · iexists _; iexact O3
      isplitl [S3]; · iexact S3
      iexact T3
    iexact HW
  unfold after
  iintro ⟨HW, ⟨A0, X0, Y0, O0, S0, T0⟩, ⟨A1, X1, Y1, O1, S1, T1⟩, ⟨A2, X2, Y2, O2, S2, T2⟩, ⟨A3, X3, Y3, O3, S3, T3⟩⟩
  iapply Hk
  isplitl [H1 H2 H3 H4]
  · isplitl [H1]; · iexact H1
    isplitl [H2]; · iexact H2
    isplitl [H3]; · iexact H3
    iexact H4
  isplitl [X0 X1 X2 X3 Y0 Y1 Y2 Y3 H8 H9]
  · isplitl [X0 X1 X2 X3]
    · iexists X
      iapply (Entails.of_eq (cutXbuf c X).symm)
      isplitl [X0]; · iexact X0
      isplitl [X1]; · iexact X1
      isplitl [X2]; · iexact X2
      iexact X3
    isplitl [Y0 Y1 Y2 Y3]
    · iexists _
      iapply (Entails.of_eq (cutYbuf c (result f1 (k0_pay1 f2) (padW f3) (padB f4) X)).symm)
      isplitl [Y0]; · iexact Y0
      isplitl [Y1]; · iexact Y1
      isplitl [Y2]; · iexact Y2
      iexact Y3
    isplitl [H8]; · iexact H8
    iexact H9
  isplitl [S0 S1 S2 S3 T0 T1 T2 T3]
  · iapply (Entails.of_eq (cells0_eq c).symm)
    isplitl [S0]; · iexact S0
    isplitl [S1]; · iexact S1
    isplitl [S2]; · iexact S2
    isplitl [S3]; · iexact S3
    isplitl [T0]; · iexact T0
    isplitl [T1]; · iexact T1
    isplitl [T2]; · iexact T2
    iexact T3
  isplitl [A0 A1 A2 A3]
  · iapply (Entails.of_eq (cutA c X).symm)
    isplitl [A0]; · iexact A0
    isplitl [A1]; · iexact A1
    isplitl [A2]; · iexact A2
    iexact A3
  isplitl [O0 O1 O2 O3]
  · unfold kernelValue
    iapply (Entails.of_eq (cutO c (result f1 (k0_pay1 f2) (padW f3) (padB f4) X)).symm)
    isplitl [O0]; · iexact O0
    isplitl [O1]; · iexact O1
    isplitl [O2]; · iexact O2
    iexact O3
  iexact HW

end Cert.KernelIdeal.Hand

end
-- ==== Proof.Ideal.Run.lean ====
/-
  The launch: the body's triple at the one point of the pipeline, and the run of the program with the contents of the
  result.
-/
module

public import proofs.«01_k».proof.Proof.Ideal.Whole
public import Idealize.ShloMosaic.Lib.Pipeline.FrameValue

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The operand the copies read and the result they write. -/
def H0 : Finset (Ref sig .tc) := {main_arg0}
def R0 : Finset (Ref sig .tc) := {main_v0}
theorem H0_sub : H0 ⊆ Pipeline.restRefs sig spec0 := by decide
theorem R0_sub : R0 ⊆ Pipeline.restRefs sig spec0 \ H0 := by decide

/-- The body's own eight semaphores. -/
abbrev osem0 : Fin 8 → SemLoc sig := fun j =>
  (![SemLoc.dma 4, SemLoc.dma 5, SemLoc.dma 6, SemLoc.dma 7, SemLoc.dma 8, SemLoc.dma 9, SemLoc.dma 10, SemLoc.dma 11] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = cells0 c := by
  rw [Pipeline.ownSems0_eq_of_list c osem0 [0, 1, 2, 3, 4, 5, 6, 7] (by decide) (by decide)]; rfl

theorem hmain' (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The program's result from the contents of its arguments. -/
abbrev value (c : Dev nD) : S4x22x8192.Idx → F .f32 :=
  kernelValue (V m c main_arg1) (V m c main_arg2) (V m c main_arg3) (V m c main_arg4) (V m c main_arg0)

/-- The contents after the run: the result buffer's replaced. -/
def G (c : Dev nD) : (b : Ref sig .tc) → Buf (Elt F) ((c : Thread nD τ).loc b) :=
  Function.update (V m c) main_v0 (value m c)

theorem hbmPts0_eq (c : Dev nD) :
    (bigSep H0 (fun b => ((c : Thread nD τ).loc b) ↦{fullShare} V m c b) : sProp 𝕄) = held c MA (V m c main_arg0) := by
  rw [BI.bigSep_eq_bigSepL_of_eq [main_arg0] (by decide) (by decide)]; rfl
theorem routedV_eq (c : Dev nD) : (Pipeline.routed R0 c (V m c) : sProp 𝕄) = held c MO (V m c main_v0) := by
  unfold Pipeline.routed; rw [BI.bigSep_eq_bigSepL_of_eq [main_v0] (by decide) (by decide)]; rfl
theorem routedG_eq (c : Dev nD) : (Pipeline.routed R0 c (G m c) : sProp 𝕄) = held c MO (value m c) := by
  unfold Pipeline.routed G; rw [BI.bigSep_eq_bigSepL_of_eq [main_v0] (by decide) (by decide)]
  simp only [BI.bigSepL_singleton, Function.update_self]

/-- What the body is entered and left with beside its windows. -/
def carried (c : Dev nD) (fO : S4x22x8192.Idx → F .f32) : sProp 𝕄 :=
  iprop(((∃ f, held c MX f) ∗ (∃ f, held c MY f) ∗ (∃ f, held c MW f) ∗ (∃ f, held c MB f))
    ∗ (∃ r, prngReg c r) ∗ cells0 c ∗ held c MA (V m c main_arg0) ∗ held c MO fO)

theorem entry_eq (c : Dev nD) : (Pipeline.ΦDRG osem0 spec0 H0 R0 (V m) (V m) c : sProp 𝕄) = carried m c (V m c main_v0) := by
  rw [Pipeline.ΦDRG_eq, scopedRest0_eq, ownSems00_eq, hbmPts0_eq, routedV_eq]; rfl
theorem exit_eq (c : Dev nD) : (Pipeline.ΦDRG osem0 spec0 H0 R0 (V m) (G m) c : sProp 𝕄) = carried m c (value m c) := by
  rw [Pipeline.ΦDRG_eq, scopedRest0_eq, ownSems00_eq, hbmPts0_eq, routedG_eq]; rfl

/-- The pipeline's data: the arrays as launched, every input window's block left in place. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := if t = Fin.last _ then carried m c (value m c) else carried m c (V m c main_v0)
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := rfl
theorem after0_1 (c : Dev nD) (t : Fin cfg0.N) : (dats m 0 c).after 1 t = iblk m c 1 t := rfl
theorem after0_2 (c : Dev nD) (t : Fin cfg0.N) : (dats m 0 c).after 2 t = iblk m c 2 t := rfl
theorem after0_3 (c : Dev nD) (t : Fin cfg0.N) : (dats m 0 c).after 3 t = iblk m c 3 t := rfl

/-- An input window's staging buffer holds its block when the body is entered, for each of the four windows. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]) t d).trans
    (by unfold Dat.fetched Dat.blockOf iblk; rw [A_eq]; rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]) t d).trans
    (by unfold Dat.fetched Dat.blockOf iblk; rw [A_eq]; rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]) t d).trans
    (by unfold Dat.fetched Dat.blockOf iblk; rw [A_eq]; rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]) t d).trans
    (by unfold Dat.fetched Dat.blockOf iblk; rw [A_eq]; rfl)

/-- Each window's block is its whole array. -/
theorem iblk0 (c : Dev nD) (t : Fin cfg0.N) : iblk m c 0 t = V m c main_arg1 :=
  Memref.read_access_unit_zero (Elt F) main_arg1 (by funext a; fin_cases a <;> rfl) _ _
theorem iblk1 (c : Dev nD) (t : Fin cfg0.N) : iblk m c 1 t = V m c main_arg2 :=
  Memref.read_access_unit_zero (Elt F) main_arg2 (by funext a; fin_cases a <;> rfl) _ _
theorem iblk2 (c : Dev nD) (t : Fin cfg0.N) : iblk m c 2 t = V m c main_arg3 :=
  Memref.read_access_unit_zero (Elt F) main_arg3 (by funext a; fin_cases a <;> rfl) _ _
theorem iblk3 (c : Dev nD) (t : Fin cfg0.N) : iblk m c 3 t = V m c main_arg4 :=
  Memref.read_access_unit_zero (Elt F) main_arg4 (by funext a; fin_cases a <;> rfl) _ _

/-- The staging buffers hold the weights and the biases. -/
theorem owns_0 (c : Dev nD) (t : Fin cfg0.N) :
    (owns (c : Thread nD τ) (win0_0.stage (cfg0.slots t 0)) fullShare (iblk m c 0 t) : sProp 𝕄) = held c N1 (V m c main_arg1) :=
  (congrArg _ (iblk0 m c t)).trans (owns_whole (c : Thread nD τ) cc0_stg0_0 fullShare (V m c main_arg1))
theorem owns_1 (c : Dev nD) (t : Fin cfg0.N) :
    (owns (c : Thread nD τ) (win0_1.stage (cfg0.slots t 1)) fullShare (iblk m c 1 t) : sProp 𝕄) = held c N2 (V m c main_arg2) :=
  (congrArg _ (iblk1 m c t)).trans (owns_whole (c : Thread nD τ) cc0_stg1_0 fullShare (V m c main_arg2))
theorem owns_2 (c : Dev nD) (t : Fin cfg0.N) :
    (owns (c : Thread nD τ) (win0_2.stage (cfg0.slots t 2)) fullShare (iblk m c 2 t) : sProp 𝕄) = held c N3 (V m c main_arg3) :=
  (congrArg _ (iblk2 m c t)).trans (owns_whole (c : Thread nD τ) cc0_stg2_0 fullShare (V m c main_arg3))
theorem owns_3 (c : Dev nD) (t : Fin cfg0.N) :
    (owns (c : Thread nD τ) (win0_3.stage (cfg0.slots t 3)) fullShare (iblk m c 3 t) : sProp 𝕄) = held c N4 (V m c main_arg4) :=
  (congrArg _ (iblk3 m c t)).trans (owns_whole (c : Thread nD τ) cc0_stg3_0 fullShare (V m c main_arg4))

/-! ## The body at the pipeline's one point -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t))

theorem Phi_entry (c : Dev nD) (t : Fin cfg0.N) : (dats m 0 c).Φ t.castSucc = carried m c (V m c main_v0) := by
  show (if _ then _ else _) = _
  rw [if_neg (Fin.castSucc_lt_last t).ne]
theorem Phi_exit (c : Dev nD) (t : Fin cfg0.N) : (dats m 0 c).Φ t.succ = carried m c (value m c) := by
  show (if _ then _ else _) = _
  rw [if_pos]
  rw [fin_N0 t]; decide

set_option backward.isDefEq.respectTransparency.types false in
set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Phi_entry, Phi_exit, after0_0, after0_1, after0_2, after0_3]
  simp only [before0_0, before0_1, before0_2, before0_3]
  unfold Dat.owesAt Pipeline.owesWithin carried
  rw [show (dats m 0 c).owed t.castSucc = 0 from rfl, show (dats m 0 c).owed t.succ = 0 from rfl, body_eq]
  iintro ⟨⟨HS, Hg, HC, HA, HO⟩, ⟨%W, -, HW⟩, ⟨%d0, H1⟩, ⟨%d1, H2⟩, ⟨%d2, H3⟩, ⟨%d3, H4⟩⟩
  iapply (body_spec c W (V m c main_arg1) (V m c main_arg2) (V m c main_arg3) (V m c main_arg4) (V m c main_arg0) _) $$ [H1 H2 H3 H4 HS HC HA HO HW]
  · isplitl [H1 H2 H3 H4]
    · isplitl [H1]; · iapply (Entails.of_eq (owns_0 m c t)) $$ H1
      isplitl [H2]; · iapply (Entails.of_eq (owns_1 m c t)) $$ H2
      isplitl [H3]; · iapply (Entails.of_eq (owns_2 m c t)) $$ H3
      iapply (Entails.of_eq (owns_3 m c t)) $$ H4
    isplitl [HS]; · iexact HS
    isplitl [HC]; · iexact HC
    isplitl [HA]; · iexact HA
    isplitl [HO]; · iexists _; iexact HO
    iexact HW
  iintro ⟨⟨H1, H2, H3, H4⟩, HS, HC, HA, HO, ⟨%W', HW⟩⟩
  isplitl [HS Hg HC HA HO]
  · isplitl [HS]; · iexact HS
    isplitl [Hg]; · iexact Hg
    isplitl [HC]; · iexact HC
    isplitl [HA]; · iexact HA
    iexact HO
  isplitl [HW]
  · iexists W'; isplitr; · ipureintro; exact fun _ _ => Or.inl trivial
    iexact HW
  isplitl [H1]; · iapply (Entails.of_eq (owns_0 m c t).symm) $$ H1
  isplitl [H2]; · iapply (Entails.of_eq (owns_1 m c t).symm) $$ H2
  isplitl [H3]; · iapply (Entails.of_eq (owns_2 m c t).symm) $$ H3
  iapply (Entails.of_eq (owns_3 m c t).symm) $$ H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem enter (c : Dev nD) : (Pipeline.ΦDRG osem0 spec0 H0 R0 (V m) (V m) c : sProp 𝕄) ⊢ (dats m 0 c).Φ 0 :=
  Entails.of_eq ((entry_eq m c).trans (Phi_entry m c t0_0).symm)
theorem leave (c : Dev nD) : (dats m 0 c).Φ (Fin.last cfg0.N) ⊢ (Pipeline.ΦDRG osem0 spec0 H0 R0 (V m) (G m) c : sProp 𝕄) :=
  Entails.of_eq ((show (dats m 0 c).Φ (Fin.last cfg0.N) = carried m c (value m c) from by
    dsimp only [dats]; exact if_pos rfl).trans (exit_eq m c).symm)

set_option backward.isDefEq.respectTransparency.types false in
/-- Every run ends with the arguments as launched, the result at `G` and every semaphore at zero. -/
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain' m Variants.none) (hA := A_eq m) (G := G m)
    (hin := enter m) (hout := leave m)

/-- The same run read at the program's buffers: the arguments unchanged, the result the value of the arguments, every
    semaphore at zero. -/
theorem run_value : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v0) = value m c)
      ∧ r.2.sem = fun _ => 0) :=
  (θ_run defs _ _).mono (fun _ h => ⟨fun c => ⟨⟨
      (h.1.toR c).2 main_arg0 (Finset.mem_sdiff.mpr ⟨Pipeline.mem_restRefs_of main_arg0 (by decide) (by decide), by decide⟩),
      ((h.1.toR c).1 0).trans (((dats m 0 c).arrAt_in 0 rfl _).trans (A_eq m c 0)),
      ((h.1.toR c).1 1).trans (((dats m 0 c).arrAt_in 1 rfl _).trans (A_eq m c 1)),
      ((h.1.toR c).1 2).trans (((dats m 0 c).arrAt_in 2 rfl _).trans (A_eq m c 2)),
      ((h.1.toR c).1 3).trans (((dats m 0 c).arrAt_in 3 rfl _).trans (A_eq m c 3))⟩,
      (h.1.written c (b := main_v0) (by decide)).trans (by unfold G; rw [Function.update_self])⟩, h.2⟩) (run_main m ρ)

end Cert.KernelIdeal.Hand

end
-- ==== Proof.Frames.lean ====
/-
  The frames of the three programs: each runs, its arguments end unchanged, and every semaphore is back at zero.
-/
module

public import proofs.«01_k».proof.Defs
public import proofs.«01_k».proof.Proof.Gen.Kernel
public import proofs.«01_k».proof.Proof.Ideal.Run
public import proofs.«01_k».proof.Proof.Gen.ReferenceIdeal.Run

@[expose] public section

set_option maxRecDepth 65536

noncomputable section

namespace Cert.Proof

open Idealize.ShloMosaic Idealize.SL.Sem Idealize.ShloMosaic.Tactic

/-- The kernel read over the extended reals runs to its end with its five arguments unchanged and every semaphore
    at zero. -/
theorem frame_ideal : Cert.quiescent_KernelIdeal (hKernelIdeal := Cert.KernelIdeal.Gen.facts) := fun m ρ _ =>
  (θ_run Cert.KernelIdeal.defs _ _).mono
    (fun _ h => ⟨fun c => ⟨(h.1 c).1.1, (h.1 c).1.2.1, (h.1 c).1.2.2.1, (h.1 c).1.2.2.2.1, (h.1 c).1.2.2.2.2⟩, h.2⟩)
    (Cert.KernelIdeal.Hand.run_value (F := Ideal) m ρ)

/-- The two programs declare the same buffers and semaphores. -/
theorem twin_sig : Cert.Kernel.sig = Cert.KernelIdeal.sig := rfl

/-- No operation of the kernel is rewritten by the idealization: the two programs are one text. -/
theorem twin_main : (Cert.Kernel.main (F := Bits)) = Cert.KernelIdeal.main (F := Bits) := by sl_kernel_rfl

/-- … and so are their kernel bodies. -/
theorem twin_defs : (Cert.Kernel.defs (F := Bits)) = Cert.KernelIdeal.defs (F := Bits) := by sl_kernel_rfl

/-- The kernel at the machine's own float words runs to its end with its five arguments unchanged and every
    semaphore at zero: the run of its ideal twin, which holds for any float values. -/
theorem frame_bits : Cert.quiescent_Kernel (hKernel := Cert.Kernel.Gen.facts) := fun m ρ _ => by
  rw [twin_main, twin_defs]
  exact (θ_run Cert.KernelIdeal.defs _ _).mono
    (fun _ h => ⟨fun c => ⟨(h.1 c).1.1, (h.1 c).1.2.1, (h.1 c).1.2.2.1, (h.1 c).1.2.2.2.1, (h.1 c).1.2.2.2.2⟩, h.2⟩)
    (Cert.KernelIdeal.Hand.run_value (F := Bits) m ρ)

/-- The reference runs to its end with its five arguments unchanged; it declares no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof

end
-- ==== Proof.Column.lean ====
/-
  One column of values: what is kept by the threshold of seven rounds of striking out the largest is what is kept by
  the first eight places of a sorted order, unless a tie decides.
-/
module

public import Idealize.ShloMosaic.Lib.Pointwise

@[expose] public section

noncomputable section

namespace Cert.Column

variable {n : ℕ}

/-- The largest of a column. -/
def biggest (a : Fin n → EReal) : EReal := Finset.univ.sup a

/-- One round: whatever reaches the largest becomes `-1`. -/
def strike (a : Fin n → EReal) : Fin n → EReal := fun j => if biggest a ≤ a j then -1 else a j

/-- The threshold: the largest after seven rounds. -/
def threshold (a : Fin n → EReal) : EReal := biggest (strike^[7] a)

/-- The distinct values of a column above `v`. -/
def above (a : Fin n → EReal) (v : EReal) : Finset EReal := (Finset.univ.image a).filter (v < ·)

theorem mem_above {a : Fin n → EReal} {v w : EReal} : w ∈ above a v ↔ (∃ i, a i = w) ∧ v < w := by
  simp [above]

theorem neg_one_lt_zero : (-1 : EReal) < 0 := by
  have h : ((-1 : ℝ) : EReal) < ((0 : ℝ) : EReal) := EReal.coe_lt_coe_iff.mpr (by norm_num)
  simpa using h

/-- More distinct values lie above the lower of two values of a column. -/
theorem card_above_lt {a : Fin n → EReal} {v : EReal} (i : Fin n) (h : v < a i) :
    (above a (a i)).card < (above a v).card := by
  refine Finset.card_lt_card (Finset.ssubset_iff_of_subset ?_ |>.mpr ⟨a i, mem_above.mpr ⟨⟨i, rfl⟩, h⟩, fun hm => lt_irrefl _ (mem_above.mp hm).2⟩)
  intro w hw
  exact mem_above.mpr ⟨(mem_above.mp hw).1, h.trans (mem_above.mp hw).2⟩

/-- If a value lies above `v`, the least such has exactly one fewer above it. -/
theorem exists_next {a : Fin n → EReal} {v : EReal} (h : 0 < (above a v).card) :
    ∃ i, v < a i ∧ (above a v).card = (above a (a i)).card + 1 := by
  obtain ⟨w, hw, hmin⟩ := Finset.exists_min_image (above a v) id (Finset.card_pos.mp h)
  obtain ⟨⟨i, rfl⟩, hv⟩ := mem_above.mp hw
  refine ⟨i, hv, ?_⟩
  have he : above a (a i) = (above a v).erase (a i) := by
    ext u
    rw [Finset.mem_erase, mem_above, mem_above]
    constructor
    · rintro ⟨hu, hlt⟩
      exact ⟨hlt.ne', hu, hv.trans hlt⟩
    · rintro ⟨hne, hu, hlt⟩
      exact ⟨hu, lt_of_le_of_ne (hmin u (mem_above.mpr ⟨hu, hlt⟩)) (Ne.symm hne)⟩
  rw [he, Finset.card_erase_of_mem hw]
  omega

/-- After `k` rounds: the values with fewer than `k` distinct values above them are struck out, the others stand. -/
def Struck (a : Fin n → EReal) (k : ℕ) (w : Fin n → EReal) : Prop :=
  ∀ j, (w j = a j ∧ k ≤ (above a (a j)).card) ∨ (w j = -1 ∧ (above a (a j)).card < k)

/-- Then a value reaches the largest one left just when at most `k` distinct values lie above it. -/
theorem Struck.biggest_le_iff {a w : Fin n → EReal} {k : ℕ} (h0 : ∀ j, 0 ≤ a j) (h : Struck a k w) (j : Fin n) :
    biggest w ≤ a j ↔ (above a (a j)).card ≤ k := by
  constructor
  · intro hb
    by_contra hk
    obtain ⟨i, hi, hc⟩ := exists_next (a := a) (v := a j) (by omega)
    rcases h i with ⟨hw, -⟩ | ⟨-, hlt⟩
    · have h1 : w i ≤ biggest w := Finset.le_sup (f := w) (Finset.mem_univ i)
      rw [hw] at h1
      exact absurd (h1.trans hb) (not_le.mpr hi)
    · omega
  · intro hk
    refine Finset.sup_le fun i _ => ?_
    by_contra hlt
    rw [not_le] at hlt
    rcases h i with ⟨hw, hd⟩ | ⟨hw, -⟩
    · rw [hw] at hlt
      have := card_above_lt (a := a) i hlt
      omega
    · rw [hw] at hlt
      exact absurd (hlt.trans neg_one_lt_zero) (not_lt.mpr (h0 j))

theorem struck_iterate {a : Fin n → EReal} (h0 : ∀ j, 0 ≤ a j) (k : ℕ) : Struck a k (strike^[k] a) := by
  induction k with
  | zero => exact fun j => Or.inl ⟨rfl, Nat.zero_le _⟩
  | succ k ih =>
    rw [Function.iterate_succ_apply']
    intro j
    rcases ih j with ⟨hw, hd⟩ | ⟨hw, hd⟩
    · unfold strike
      by_cases hb : biggest (strike^[k] a) ≤ strike^[k] a j
      · refine Or.inr ⟨if_pos hb, ?_⟩
        rw [hw] at hb
        have := (ih.biggest_le_iff h0 j).mp hb
        omega
      · refine Or.inl ⟨(if_neg hb).trans hw, ?_⟩
        rw [hw] at hb
        have := mt (ih.biggest_le_iff h0 j).mpr hb
        omega
    · refine Or.inr ⟨?_, by omega⟩
      unfold strike
      split
      · rfl
      · exact hw

/-- A value reaches the threshold just when fewer than eight distinct values lie above it. -/
theorem threshold_le_iff {a : Fin n → EReal} (h0 : ∀ j, 0 ≤ a j) (j : Fin n) :
    threshold a ≤ a j ↔ (above a (a j)).card ≤ 7 := (struck_iterate h0 7).biggest_le_iff h0 j

/-! ## Against the sorted order -/

/-- A column of 22 with two zeros below. -/
def padded (y : Fin 22 → EReal) : Fin 24 → EReal := fun j => if h : j.val < 22 then y ⟨j.val, h⟩ else 0

theorem padded_nonneg {y : Fin 22 → EReal} (h0 : ∀ c, 0 ≤ y c) (j : Fin 24) : 0 ≤ padded y j := by
  unfold padded; split
  · exact h0 _
  · exact le_rfl

theorem padded_of (y : Fin 22 → EReal) (c : Fin 22) : padded y ⟨c.val, by omega⟩ = y c := dif_pos c.isLt

/-- No tie decides along a sorted column: the ninth value is zero, or the first nine fall strictly. -/
def NoTie (y : Fin 22 → EReal) (σ : Fin 22 → Fin 22) : Prop :=
  ∀ r : Fin 8, y (σ ⟨8, by decide⟩) = 0 ∨ y (σ ⟨r.val + 1, by omega⟩) < y (σ ⟨r.val, by omega⟩)

variable {y : Fin 22 → EReal} {σ : Fin 22 → Fin 22}

/-- One of the first eight places has fewer than eight distinct values above it. -/
theorem card_above_of_lt (h0 : ∀ c, 0 ≤ y c) (hs : Function.Surjective σ) (ha : Antitone (y ∘ σ)) (r : Fin 22) (hr : r.val < 8) :
    (above (padded y) (y (σ r))).card ≤ 7 := by
  have hsub : above (padded y) (y (σ r)) ⊆ (Finset.Iio r).image (y ∘ σ) := by
    intro w hw
    obtain ⟨⟨j, hj⟩, hlt⟩ := mem_above.mp hw
    by_cases h : j.val < 22
    · obtain ⟨q, hq⟩ := hs ⟨j.val, h⟩
      have hy : y (σ q) = w := by
        rw [hq, ← hj]; exact (padded_of y ⟨j.val, h⟩).symm
      refine Finset.mem_image.mpr ⟨q, Finset.mem_Iio.mpr ?_, hy⟩
      by_contra hge
      exact absurd (ha (not_lt.mp hge)) (not_le.mpr (by show y (σ r) < y (σ q); rw [hy]; exact hlt))
    · have hz : w = 0 := hj.symm.trans (dif_neg h)
      rw [hz] at hlt
      exact absurd (h0 (σ r)) (not_le.mpr hlt)
  refine (Finset.card_le_card hsub).trans (Finset.card_image_le.trans ?_)
  rw [Fin.card_Iio]; omega

/-- Where no tie decides, a positive value past the first eight places has eight distinct values above it. -/
theorem card_above_of_ge (ha : Antitone (y ∘ σ)) (ht : NoTie y σ) (r : Fin 22) (hr : 8 ≤ r.val) (hp : 0 < y (σ r)) :
    8 ≤ (above (padded y) (y (σ r))).card := by
  have h8 : y (σ r) ≤ y (σ ⟨8, by decide⟩) := ha (Fin.mk_le_of_le_val hr)
  have hne : y (σ ⟨8, by decide⟩) ≠ 0 := (hp.trans_le h8).ne'
  let f : Fin 9 → EReal := fun i => y (σ ⟨i.val, by omega⟩)
  have hf : StrictAnti f := Fin.strictAnti_iff_succ_lt.mpr fun i => (ht i).resolve_left hne
  have hsub : (Finset.univ.image fun i : Fin 8 => f i.castSucc) ⊆ above (padded y) (y (σ r)) := by
    intro w hw
    obtain ⟨i, -, rfl⟩ := Finset.mem_image.mp hw
    refine mem_above.mpr ⟨⟨⟨(σ ⟨i.val, by omega⟩).val, by omega⟩, padded_of y _⟩, h8.trans_lt ?_⟩
    exact hf (show i.castSucc < (8 : Fin 9) from Fin.castSucc_lt_last i)
  have hc := Finset.card_le_card hsub
  have hi : Function.Injective fun i : Fin 8 => f i.castSucc := hf.injective.comp (Fin.castSucc_injective 8)
  rwa [Finset.card_image_of_injective _ hi, Finset.card_univ, Fintype.card_fin] at hc

/-- Where no tie decides, keeping the values that reach the threshold is keeping the first eight places. -/
theorem kept_eq (h0 : ∀ c, 0 ≤ y c) (hs : Function.Surjective σ) (ha : Antitone (y ∘ σ)) (ht : NoTie y σ) (r : Fin 22) :
    (if threshold (padded y) ≤ y (σ r) then y (σ r) else 0) = if r.val < 8 then y (σ r) else 0 := by
  have hthr : threshold (padded y) ≤ y (σ r) ↔ (above (padded y) (y (σ r))).card ≤ 7 := by
    have h := threshold_le_iff (padded_nonneg h0) ⟨(σ r).val, by omega⟩
    rwa [padded_of] at h
  by_cases hr : r.val < 8
  · rw [if_pos hr, if_pos (hthr.mpr (card_above_of_lt h0 hs ha r hr))]
  · rw [if_neg hr]
    rcases (h0 (σ r)).eq_or_lt with hz | hp
    · rw [← hz]; exact ite_self _
    · have := card_above_of_ge ha ht r (not_lt.mp hr) hp
      exact if_neg fun h => by have := hthr.mp h; omega

end Cert.Column

end
-- ==== Proof.Order.lean ====
/-
  The order a sort by falling value puts a column in, and the largest of a column along the last axis, read at an
  index.
-/
module

public import proofs.«01_k».proof.Proof.Column
public import Idealize.ShloMosaic.Lib.SortFacts
public import Idealize.ShloMosaic.Lib.Pointwise

@[expose] public section

set_option maxRecDepth 65536
set_option backward.isDefEq.respectTransparency.types false

noncomputable section

namespace Cert.Column

open Idealize.ShloMosaic

/-- Where the value at each place of the sorted column stands in the column. -/
def order (y : Fin 22 → EReal) : Fin 22 → Fin 22 := sortedFrom fun k k' => decide (y k' < y k)

theorem order_surjective (y : Fin 22 → EReal) : Function.Surjective (order y) := sortedFrom_surjective _

theorem order_injective (y : Fin 22 → EReal) : Function.Injective (order y) := sortedFrom_injective _

/-- The sorted column does not rise. -/
theorem order_antitone (y : Fin 22 → EReal) : Antitone (y ∘ order y) := fun i j hij => by
  rcases hij.eq_or_lt with h | h
  · rw [h]
  · have hb := sortedFrom_noInversion (fun k k' => decide (y k' < y k)) (fun k k' => decide (y k' < y k))
      (fun a b hab => decide_eq_false (lt_asymm (of_decide_eq_true hab))) (fun a b hab => hab)
      (fun a b c hab hbc => decide_eq_false (not_lt.mpr ((not_lt.mp (of_decide_eq_false hab)).trans (not_lt.mp (of_decide_eq_false hbc))))) i j h
    exact not_lt.mp (of_decide_eq_false hb)

/-- The three axes: chunk, token, channel. -/
abbrev SC : Shape := ⟨3, ![4, 8192, 22]⟩

/-- Along the last axis, an index of the three. -/
theorem along_last (b : Fin 4) (t : Fin 8192) (c k : Fin 22) (h : 2 < SC.rank) :
    (ix3 b t c : SC.Idx).along ⟨2, h⟩ k = ix3 b t k := by
  funext a
  match a with
  | ⟨0, _⟩ => rfl
  | ⟨1, _⟩ => rfl
  | ⟨2, _⟩ => rfl

/-- The comparison the sort is by. -/
theorem before_eq (a b : EReal) : (FloatOps.cmpfTotal (F := Ideal) (φ := .f32) .gt a b == 1#1) = decide (b < a) := by
  rw [Ideal.cmpfTotal_def]
  show (BitVec.ofBool (decide (b < a)) == 1#1) = _
  cases decide (b < a) <;> rfl

/-- The order the sort of a column by the comparison puts it in. -/
theorem sortedFrom_eq (x : SC.Idx → EReal) (b : Fin 4) (t : Fin 8192) (c : Fin 22) (h : 2 < SC.rank) :
    sortedFrom (fun k k' : Fin 22 => FloatOps.cmpfTotal (F := Ideal) (φ := .f32) .gt (x ((ix3 b t c : SC.Idx).along ⟨2, h⟩ k)) (x ((ix3 b t c : SC.Idx).along ⟨2, h⟩ k')) == 1#1)
      = order fun c => x (ix3 b t c) := by
  unfold order
  simp only [along_last, before_eq]

/-- A column sorted by falling value, and what is carried with it. -/
theorem sort2_apply {β : Type} (x : SC.Idx → EReal) (y : SC.Idx → β) (b : Fin 4) (t : Fin 8192) (c : Fin 22) :
    (Host.sort2 SC 2 (fun l r : EReal × β => FloatOps.cmpfTotal (F := Ideal) (φ := .f32) .gt l.1 r.1) x y).1 (ix3 b t c) = x (ix3 b t (order (fun c => x (ix3 b t c)) c))
    ∧ (Host.sort2 SC 2 (fun l r : EReal × β => FloatOps.cmpfTotal (F := Ideal) (φ := .f32) .gt l.1 r.1) x y).2 (ix3 b t c) = y (ix3 b t (order (fun c => x (ix3 b t c)) c)) := by
  have h : 2 < SC.rank := by decide
  have e := congrFun (sortedFrom_eq x b t c h) c
  unfold Host.sort2
  rw [dif_pos h]
  constructor
  · rw [← along_last b t c (order (fun c => x (ix3 b t c)) c) h, ← e]
    rfl
  · rw [← along_last b t c (order (fun c => x (ix3 b t c)) c) h, ← e]
    rfl

variable {K : Nat} (x : SC.Idx → EReal) (h : SC.Slices (fun _ => 0) ⟨3, ![4, 8192, K]⟩) (hK : K ≤ 22)

/-- A slice along the last axis from the origin reads at the same place. -/
theorem slice_place {α : Type} (z : SC.Idx → α) (b : Fin 4) (t : Fin 8192) (r : Fin K) :
    extractStridedSlice ⟨3, ![4, 8192, K]⟩ (fun _ => 0) z h (ix3 b t r) = z (ix3 b t ⟨r.val, by omega⟩) := by
  unfold extractStridedSlice
  refine congrArg z (funext fun a => Fin.ext ?_)
  match a with
  | ⟨0, _⟩ => exact Nat.zero_add b.val
  | ⟨1, _⟩ => exact Nat.zero_add t.val
  | ⟨2, _⟩ => exact Nat.zero_add r.val

/-- Each channel's number, as a word. -/
def channel : SC.Idx → BitVec 32 := fun i => if hd : 2 < SC.rank then iotaInDim SC 32 ⟨2, hd⟩ i else 0#32

/-- The `r`-th largest value of a column. -/
theorem topK_value (b : Fin 4) (t : Fin 8192) (r : Fin K) :
    (Host.topK (s := SC) ⟨3, ![4, 8192, K]⟩ 2 (FloatOps.cmpfTotal (F := Ideal) (φ := .f32) .gt) x h).1 (ix3 b t r)
      = x (ix3 b t (order (fun c => x (ix3 b t c)) ⟨r.val, by omega⟩)) := by
  unfold Host.topK
  exact (slice_place h hK _ b t r).trans (sort2_apply x channel b t _).1

/-- Where the `r`-th largest value of a column stands, as a word. -/
theorem topK_place (b : Fin 4) (t : Fin 8192) (r : Fin K) :
    (Host.topK (s := SC) ⟨3, ![4, 8192, K]⟩ 2 (FloatOps.cmpfTotal (F := Ideal) (φ := .f32) .gt) x h).2 (ix3 b t r)
      = BitVec.ofNat 32 (order (fun c => x (ix3 b t c)) ⟨r.val, by omega⟩).val := by
  unfold Host.topK
  refine (slice_place h hK _ b t r).trans ((sort2_apply x channel b t _).2.trans ?_)
  unfold channel
  rw [dif_pos (show 2 < SC.rank by decide)]
  rfl

end Cert.Column

end
-- ==== Proof.Ideal.Value.lean ====
/-
  What the kernel's result holds over the extended reals: at a channel and a token the perceptron's value there, if it
  reaches the threshold of the token's column, and else zero.
-/
module

public import proofs.«01_k».proof.Proof.Ideal.Whole
public import proofs.«01_k».proof.Proof.Column
public import Idealize.ShloMosaic.Lib.KernelVsHost.SublaneAllReduce
public import Idealize.ShloMosaic.Lib.Pointwise

@[expose] public section

set_option maxRecDepth 65536
set_option backward.isDefEq.respectTransparency.types false

noncomputable section

namespace Cert.KernelIdeal.Hand

open Cert.KernelIdeal Cert.KernelIdeal.Gen Cert.Column
open Idealize.ShloMosaic

/-! ## The selection -/

/-- The 24 values of column `t` of three groups of eight rows. -/
def rows (g : Fin 3 → FVec Ideal S8x1024 .f32) (t : Fin 1024) : Fin 24 → EReal := fun j =>
  g ⟨j.val / 8, by omega⟩ (ix2 ⟨j.val % 8, by omega⟩ t)

/-- The word of minus one. -/
theorem ofBits_neg_one : (Scalar.ofBits .f32 0xBF800000#32 : Ideal .f32) = (-1 : EReal) := by
  show Ideal.ofBits .f32 0xBF800000#32 = _
  rw [show (-1 : EReal) = ((-1 : ℝ) : EReal) by rw [EReal.coe_neg, EReal.coe_one]]
  simp [Ideal.ofBits, Ideal.ieee, -EReal.coe_mul, -EReal.coe_neg]; norm_num

/-- The word of zero. -/
theorem ofBits_zero : (Scalar.ofBits .f32 0x00000000#32 : Ideal .f32) = (0 : EReal) := Ideal.ofBits_zero_f32

/-- Each of eight values is at most their largest. -/
theorem le_combine8 (f : Fin 8 → EReal) (k : Fin 8) : f k ≤ SublaneAllReduce.combine8 max f := by
  unfold SublaneAllReduce.combine8
  fin_cases k <;> simp only [le_max_iff, Fin.zero_eta, Fin.mk_one, Fin.reduceFinMk, le_refl, true_or, or_true]

/-- The largest of eight values is at most what bounds each. -/
theorem combine8_le {f : Fin 8 → EReal} {b : EReal} (h : ∀ k, f k ≤ b) : SublaneAllReduce.combine8 max f ≤ b :=
  max_le (max_le (max_le (h 0) (h 4)) (max_le (h 2) (h 6))) (max_le (max_le (h 1) (h 5)) (max_le (h 3) (h 7)))

/-- Row `q` of group `k` is row `8 k + q` of the column. -/
theorem rows_apply (g : Fin 3 → FVec Ideal S8x1024 .f32) (t : Fin 1024) (j : Fin 24) (k : Fin 3) (q : Fin 8) (h : j.val = k.val * 8 + q.val) :
    rows g t j = g k (ix2 q t) := by
  have e1 : (⟨j.val / 8, by omega⟩ : Fin 3) = k := Fin.ext (by show j.val / 8 = k.val; omega)
  have e2 : (⟨j.val % 8, by omega⟩ : Fin 8) = q := Fin.ext (by show j.val % 8 = q.val; omega)
  unfold rows
  rw [e1, e2]

/-- The largest of 24 values, group by group. -/
theorem biggest_rows (g : Fin 3 → FVec Ideal S8x1024 .f32) (t : Fin 1024) :
    SublaneAllReduce.combine8 max (fun k : Fin 8 => max (max (g 0 (ix2 k t)) (g 1 (ix2 k t))) (g 2 (ix2 k t)) : Fin 8 → EReal)
      = biggest (rows g t) := by
  have hle : ∀ (i : Fin 3) (k : Fin 8), g i (ix2 k t) ≤ biggest (rows g t) := fun i k =>
    (rows_apply g t ⟨i.val * 8 + k.val, by omega⟩ i k rfl).symm.trans_le (Finset.le_sup (f := rows g t) (Finset.mem_univ _))
  refine le_antisymm (combine8_le fun k => max_le (max_le (hle 0 k) (hle 1 k)) (hle 2 k)) (Finset.sup_le fun j _ => ?_)
  refine le_trans ?_ (le_combine8 _ ⟨j.val % 8, by omega⟩)
  have h3 : j.val / 8 = 0 ∨ j.val / 8 = 1 ∨ j.val / 8 = 2 := by omega
  rcases h3 with h | h | h
  · rw [rows_apply g t j 0 ⟨j.val % 8, by omega⟩ (by show j.val = 0 * 8 + j.val % 8; omega)]
    exact le_max_of_le_left (le_max_left _ _)
  · rw [rows_apply g t j 1 ⟨j.val % 8, by omega⟩ (by show j.val = 1 * 8 + j.val % 8; omega)]
    exact le_max_of_le_left (le_max_right _ _)
  · rw [rows_apply g t j 2 ⟨j.val % 8, by omega⟩ (by show j.val = 2 * 8 + j.val % 8; omega)]
    exact le_max_right _ _

/-- The rotations leave the largest of the column's 24 values on each row. -/
theorem top_apply (g : Fin 3 → FVec Ideal S8x1024 .f32) (r : Fin 8) (t : Fin 1024) : top g (ix2 r t) = biggest (rows g t) := by
  refine (SublaneAllReduce.sublaneAllMax_apply (n := 1024) (φ := .f32) rotates_S8x1024_d0 (maximumf (maximumf (g 0) (g 1)) (g 2)) r t).trans ?_
  exact biggest_rows g t

theorem round_apply (g : Fin 3 → FVec Ideal S8x1024 .f32) (k : Fin 3) (r : Fin 8) (t : Fin 1024) :
    round g k (ix2 r t) = if biggest (rows g t) ≤ g k (ix2 r t) then (-1 : EReal) else g k (ix2 r t) := by
  rw [← top_apply g r t, ← ofBits_neg_one]
  unfold round
  pointwise

/-- One round of the kernel is one round on each column. -/
theorem rows_round (g : Fin 3 → FVec Ideal S8x1024 .f32) (t : Fin 1024) : rows (round g) t = strike (rows g t) :=
  funext fun j => round_apply g _ _ t

theorem eighth_apply (g : Fin 3 → FVec Ideal S8x1024 .f32) (r : Fin 8) (t : Fin 1024) : eighth g (ix2 r t) = threshold (rows g t) := by
  unfold eighth threshold
  rw [top_apply]
  simp only [rows_round]
  rfl

theorem kept_apply (g : Fin 3 → FVec Ideal S8x1024 .f32) (k : Fin 3) (r : Fin 8) (t : Fin 1024) :
    kept g k (ix2 r t) = if threshold (rows g t) ≤ g k (ix2 r t) then g k (ix2 r t) else (0 : EReal) := by
  rw [← eighth_apply g r t, ← ofBits_zero]
  unfold kept
  pointwise

/-- What a sub-step stores at a row and a column: the value, if it reaches the column's threshold, and else zero. -/
theorem placed_apply (g : Fin 3 → FVec Ideal S8x1024 .f32) (r : Fin 22) (t : Fin 1024) :
    placed g r t = if threshold (rows g t) ≤ rows g t ⟨r.val, by omega⟩ then rows g t ⟨r.val, by omega⟩ else (0 : EReal) := by
  have e : ∀ (k : Fin 3) (q : Fin 8), r.val = k.val * 8 + q.val → rows g t ⟨r.val, by omega⟩ = g k (ix2 q t) :=
    fun k q h => rows_apply g t _ k q h
  unfold placed
  split
  · rename_i h
    rw [e 0 ⟨r.val, h⟩ (by show r.val = 0 * 8 + r.val; omega), ← kept_apply]
    unfold out0
    pointwise
  · split
    · rename_i h h'
      rw [e 1 ⟨r.val - 8, by omega⟩ (by show r.val = 1 * 8 + (r.val - 8); omega), ← kept_apply]
      unfold out1
      pointwise
    · rename_i h h'
      rw [e 2 ⟨r.val - 16, by omega⟩ (by show r.val = 2 * 8 + (r.val - 16); omega), ← kept_apply]
      unfold out2
      pointwise

/-! ## The two layers -/

/-- The perceptron at a token and a channel: two layers, each followed by the larger of it and zero. -/
def perceptron (X : S4x8192x128.Idx → EReal) (W1 : S64x128.Idx → EReal) (B1 : S64.Idx → EReal) (W2 : S22x64.Idx → EReal)
    (B2 : S22.Idx → EReal) (b : Fin 4) (t : Fin 8192) (c : Fin 22) : EReal :=
  max ((∑ k : Fin 64, max ((∑ l : Fin 128, X (ix3 b t l) * W1 (ix2 k l)) + B1 (ix1 k)) 0 * W2 (ix2 c k)) + B2 (ix1 c)) 0

theorem perceptron_nonneg (X : S4x8192x128.Idx → EReal) (W1 : S64x128.Idx → EReal) (B1 : S64.Idx → EReal) (W2 : S22x64.Idx → EReal)
    (B2 : S22.Idx → EReal) (b : Fin 4) (t : Fin 8192) (c : Fin 22) : 0 ≤ perceptron X W1 B1 W2 B2 b t c := le_max_right _ _

theorem layers_apply (w1 : Vec Ideal S64x128 .f32) (b1 : FVec Ideal S1x64 .f32) (w2 : Vec Ideal S24x64 .f32) (b2 : Vec Ideal S24x1 .f32)
    (x : Vec Ideal S1x1024x128 .f32) (j : Fin 24) (t : Fin 1024) :
    layers w1 b1 w2 b2 x (ix2 j t)
      = (max ((∑ k : Fin 64, w2 (ix2 j k) * max ((∑ l : Fin 128, x (ix3 0 t l) * w1 (ix2 k l)) + b1 (ix2 0 k)) 0) + b2 (ix2 j 0)) 0 : EReal) := by
  unfold layers
  pointwise

/-- Row `8 k + q` of the three groups is row `8 k + q` of what the layers give. -/
theorem rows_groups (y : FVec Ideal S24x1024 .f32) (t : Fin 1024) (j : Fin 24) : rows (groups y) t j = y (ix2 j t) := by
  have h3 : j.val / 8 = 0 ∨ j.val / 8 = 1 ∨ j.val / 8 = 2 := by omega
  rcases h3 with h | h | h
  · rw [rows_apply _ t j 0 ⟨j.val % 8, by omega⟩ (by show j.val = 0 * 8 + j.val % 8; omega)]
    unfold groups
    pointwise
    exact congrArg (fun i => y (ix2 i t)) (Fin.ext (by show j.val % 8 = j.val; omega))
  · rw [rows_apply _ t j 1 ⟨j.val % 8, by omega⟩ (by show j.val = 1 * 8 + j.val % 8; omega)]
    unfold groups
    pointwise
    exact congrArg (fun i => y (ix2 i t)) (Fin.ext (by show 8 + j.val % 8 = j.val; omega))
  · rw [rows_apply _ t j 2 ⟨j.val % 8, by omega⟩ (by show j.val = 2 * 8 + j.val % 8; omega)]
    unfold groups
    pointwise
    exact congrArg (fun i => y (ix2 i t)) (Fin.ext (by show 16 + j.val % 8 = j.val; omega))

variable (X : S4x8192x128.Idx → EReal) (W1 : S64x128.Idx → EReal) (B1 : S64.Idx → EReal) (W2 : S22x64.Idx → EReal) (B2 : S22.Idx → EReal)

theorem bias1_apply (k : Fin 64) : k0_pay1 (F := Ideal) B1 (ix2 0 k) = B1 (ix1 k) := by
  unfold k0_pay1
  pointwise

theorem bias2_apply (c : Fin 22) : k0_pay5 (F := Ideal) B2 (ix2 c 0) = B2 (ix1 c) := by
  unfold k0_pay5
  pointwise

/-- A block's column of 24 values is the perceptron's 22 at its token, and two zeros. -/
theorem column_eq (b : Fin 4) (s : Nat) (hs : s < 8) (q : Fin 1024) :
    rows (groups (layers (F := Ideal) W1 (k0_pay1 B1) (padW (F := Ideal) W2) (padB (F := Ideal) B2) (block (F := Ideal) X b.val s b.isLt hs))) q
      = padded (perceptron X W1 B1 W2 B2 b ⟨s * 1024 + q.val, by omega⟩) := by
  funext j
  rw [rows_groups, layers_apply]
  simp only [bias1_apply]
  unfold padded
  split
  · rename_i h
    have hw : ∀ k : Fin 64, padW (F := Ideal) W2 (ix2 j k) = W2 (ix2 ⟨j.val, h⟩ k) := fun k => dif_pos h
    have hb : padB (F := Ideal) B2 (ix2 j 0) = B2 (ix1 ⟨j.val, h⟩) := (dif_pos h).trans (bias2_apply B2 _)
    unfold perceptron
    rw [hb]
    congr 2
    refine Finset.sum_congr rfl fun k _ => ?_
    rw [hw, mul_comm]
    rfl
  · rename_i h
    have hw : ∀ k : Fin 64, padW (F := Ideal) W2 (ix2 j k) = (0 : EReal) := fun k => (dif_neg h).trans ofBits_zero
    have hb : padB (F := Ideal) B2 (ix2 j 0) = (0 : EReal) := (dif_neg h).trans ofBits_zero
    rw [hb]
    simp only [hw, zero_mul, Finset.sum_const_zero, add_zero, max_self]

/-- What the kernel's result holds at a chunk, a channel and a token. -/
theorem kernelValue_apply (b : Fin 4) (c : Fin 22) (t : Fin 8192) :
    kernelValue (F := Ideal) W1 B1 W2 B2 X (ix3 b c t)
      = (if threshold (padded (perceptron X W1 B1 W2 B2 b t)) ≤ perceptron X W1 B1 W2 B2 b t c then perceptron X W1 B1 W2 B2 b t c else 0 : EReal) := by
  have ht : (⟨t.val / 1024 * 1024 + t.val % 1024, by omega⟩ : Fin 8192) = t := Fin.ext (by show t.val / 1024 * 1024 + t.val % 1024 = t.val; omega)
  have h := column_eq X W1 B1 W2 B2 b (t.val / 1024) (by omega) ⟨t.val % 1024, Nat.mod_lt _ (by decide)⟩
  rw [ht] at h
  unfold kernelValue result
  refine (placed_apply _ c ⟨t.val % 1024, Nat.mod_lt _ (by decide)⟩).trans ?_
  erw [h]
  rw [padded_of]

end Cert.KernelIdeal.Hand

end
-- ==== Proof.Reference.lean ====
/-
  What the reference's result holds over the extended reals: at a channel and a token the perceptron's value there, if
  it is one of the first eight of the token's sorted column, and else zero; and what the precondition says.
-/
module

public import proofs.«01_k».proof.Proof.Order
public import proofs.«01_k».proof.Proof.Ideal.Value
public import proofs.«01_k».proof.Proof.Gen.ReferenceIdeal.Run
public import proofs.«01_k».proof.Pre_no_tie_decides
public import Idealize.ShloMosaic.Lib.Routing.OpsSet
public import Idealize.ShloMosaic.Lib.WordCmp

@[expose] public section

set_option maxRecDepth 65536
set_option backward.isDefEq.respectTransparency.types false

noncomputable section

namespace Cert.Proof

open Cert.Column Idealize.ShloMosaic
open Cert.KernelIdeal.Hand (perceptron perceptron_nonneg)

section Reference

open Cert.ReferenceIdeal Cert.ReferenceIdeal.Gen

variable (X : S4x8192x128.Idx → EReal) (W1 : S64x128.Idx → EReal) (B1 : S64.Idx → EReal) (W2 : S22x64.Idx → EReal) (B2 : S22.Idx → EReal)

/-- The reference's two layers. -/
def refLayers : FVec Ideal S4x8192x22 .f32 :=
  maximumf (addf (Host.dotGeneral (F := Ideal) (φ₁ := .f32) (φ₂ := .f32) dot_S4x8192x64_S64x22_S4x8192x22_2_0_01_1_n_n none (maximumf (addf (Host.dotGeneral (F := Ideal) (φ₁ := .f32) (φ₂ := .f32) dot_S4x8192x128_S128x64_S4x8192x64_2_0_01_1_n_n none X (transpose S128x64 [1, 0] W1 transposes_S64x128_S128x64_1_0)) (broadcastInDim S4x8192x64 ![0, 1, 2] bcast_S1x1x64_S4x8192x64_0_1_2 (broadcastInDim S1x1x64 ![2] bcast_S64_S1x1x64_2 B1))) (broadcastInDim S4x8192x64 ![] bcast_S_S4x8192x64 (constant S_ .f32 0x00000000#32))) (transpose S64x22 [1, 0] W2 transposes_S22x64_S64x22_1_0)) (broadcastInDim S4x8192x22 ![0, 1, 2] bcast_S1x1x22_S4x8192x22_0_1_2 (broadcastInDim S1x1x22 ![2] bcast_S22_S1x1x22_2 B2))) (broadcastInDim S4x8192x22 ![] bcast_S_S4x8192x22 (constant S_ .f32 0x00000000#32))

theorem refLayers_apply (b : Fin 4) (t : Fin 8192) (c : Fin 22) : refLayers X W1 B1 W2 B2 (ix3 b t c) = perceptron X W1 B1 W2 B2 b t c := by
  unfold refLayers perceptron
  pointwise

/-- Where each of the eight values of a column goes: chunk, token and channel, a negative one counted from the end. -/
def targets (ids : IVec S4x8192x8 32) : IVec S4x8192x8x3 32 :=
  concatenate S4x8192x8x3 3 [⟨S4x8192x8x1, broadcastInDim S4x8192x8x1 ![0, 1, 2] bcast_S4x8192x8_S4x8192x8x1_0_1_2 (broadcastInDim S4x8192x8 ![0, 1, 2] bcast_S4x1x1_S4x8192x8_0_1_2 (select (cmpi .slt (broadcastInDim S4x1x1 ![0] bcast_S4_S4x1x1_0 (iotaInDim S4 32 0)) (broadcastInDim S4x1x1 ![] bcast_S_S4x1x1 (constantI S_ 32 0#32))) (addi (broadcastInDim S4x1x1 ![0] bcast_S4_S4x1x1_0 (iotaInDim S4 32 0)) (broadcastInDim S4x1x1 ![] bcast_S_S4x1x1 (constantI S_ 32 4#32))) (broadcastInDim S4x1x1 ![0] bcast_S4_S4x1x1_0 (iotaInDim S4 32 0))))⟩,
    ⟨S4x8192x8x1, broadcastInDim S4x8192x8x1 ![0, 1, 2] bcast_S4x8192x8_S4x8192x8x1_0_1_2 (broadcastInDim S4x8192x8 ![0, 1, 2] bcast_S1x8192x1_S4x8192x8_0_1_2 (select (cmpi .slt (broadcastInDim S1x8192x1 ![1] bcast_S8192_S1x8192x1_1 (iotaInDim S8192 32 0)) (broadcastInDim S1x8192x1 ![] bcast_S_S1x8192x1 (constantI S_ 32 0#32))) (addi (broadcastInDim S1x8192x1 ![1] bcast_S8192_S1x8192x1_1 (iotaInDim S8192 32 0)) (broadcastInDim S1x8192x1 ![] bcast_S_S1x8192x1 (constantI S_ 32 8192#32))) (broadcastInDim S1x8192x1 ![1] bcast_S8192_S1x8192x1_1 (iotaInDim S8192 32 0))))⟩,
    ⟨S4x8192x8x1, broadcastInDim S4x8192x8x1 ![0, 1, 2] bcast_S4x8192x8_S4x8192x8x1_0_1_2 (select (cmpi .slt ids (broadcastInDim S4x8192x8 ![] bcast_S_S4x8192x8 (constantI S_ 32 0#32))) (addi ids (broadcastInDim S4x8192x8 ![] bcast_S_S4x8192x8 (constantI S_ 32 22#32))) ids)⟩]
    concatenates_S4x8192x8x1_S4x8192x8x1_S4x8192x8x1_S4x8192x8x3_d3

/-- A word of a small number, read signed. -/
theorem toInt_small {n : Nat} (h : n < 8192) : (BitVec.ofNat 32 n).toInt = (n : Int) := by
  rw [BitVec.toInt_eq_toNat_cond, BitVec.toNat_ofNat]; omega

/-- A word of a small number is not counted from the end. -/
theorem unwrapped {n : Nat} (h : n < 8192) (k : BitVec 32) :
    Scalar.select (IntOp.cmpi .slt (BitVec.ofNat 32 n) 0#32) (IntOp.addi (BitVec.ofNat 32 n) k) (BitVec.ofNat 32 n) = BitVec.ofNat 32 n := by
  have hs : (BitVec.ofNat 32 n).slt 0#32 = false := by
    rw [BitVec.slt_eq_decide, toInt_small h]
    exact decide_eq_false (by simp)
  show (if BitVec.ofBool ((BitVec.ofNat 32 n).slt 0#32) = 1#1 then _ else _) = _
  rw [hs]
  exact if_neg (by decide)

variable {ids : IVec S4x8192x8 32} (b : Fin 4) (t : Fin 8192) (r : Fin 8)

theorem targets_0 : targets ids (ix4 b t r 0) = BitVec.ofNat 32 b.val := by
  refine Eq.trans ?_ (unwrapped (by omega) 4#32)
  unfold targets
  pointwise

theorem targets_1 : targets ids (ix4 b t r 1) = BitVec.ofNat 32 t.val := by
  refine Eq.trans ?_ (unwrapped (by omega) 8192#32)
  unfold targets
  pointwise

theorem targets_2 {n : Nat} (hn : n < 22) (hi : ids (ix3 b t r) = BitVec.ofNat 32 n) : targets ids (ix4 b t r 2) = BitVec.ofNat 32 n := by
  refine Eq.trans ?_ (unwrapped (by omega) 22#32)
  rw [← hi]
  unfold targets
  pointwise

/-- The dimensions of the reference's scatter. -/
abbrev scat : ScatterDims S4x8192x22 S4x8192x8x3 S4x8192x8 := scatter_S4x8192x22_S4x8192x8x3_S4x8192x8_n_012_012_3

theorem scat_window (a : Fin 3) : scat.window (ix3 b t r) a = 0 := by
  fin_cases a <;> rfl

theorem scat_start (idx : IVec S4x8192x8x3 32) (a : Fin 3) : scat.start (ix3 b t r) idx a = (idx (ix4 b t r a)).toInt := by
  fin_cases a
  · refine congrArg (fun i => (idx i).toInt) (funext fun e => ?_)
    fin_cases e <;> rfl
  · refine congrArg (fun i => (idx i).toInt) (funext fun e => ?_)
    fin_cases e <;> rfl
  · refine congrArg (fun i => (idx i).toInt) (funext fun e => ?_)
    fin_cases e <;> rfl

/-- An update whose three words are the numbers of a place goes there. -/
theorem scat_lands (idx : IVec S4x8192x8x3 32) (c : Fin 22) (h0 : (idx (ix4 b t r 0)).toInt = b.val) (h1 : (idx (ix4 b t r 1)).toInt = t.val)
    (h2 : (idx (ix4 b t r 2)).toInt = c.val) : scat.resultIdx? (ix3 b t r) idx = some (ix3 b t c) := by
  have hs : ∀ a : Fin 3, scat.start (ix3 b t r) idx a + scat.window (ix3 b t r) a = ((ix3 b t c : S4x8192x22.Idx) a).val := fun a => by
    rw [scat_start, scat_window]
    match a with
    | ⟨0, _⟩ => simpa using h0
    | ⟨1, _⟩ => simpa using h1
    | ⟨2, _⟩ => simpa using h2
  unfold ScatterDims.resultIdx?
  rw [dif_pos fun a => by rw [hs a]; exact ⟨Int.natCast_nonneg _, Int.ofNat_lt.mpr (Fin.isLt _)⟩]
  refine congrArg some (funext fun a => Fin.ext ?_)
  show (scat.start (ix3 b t r) idx a + scat.window (ix3 b t r) a).toNat = _
  rw [hs a]
  rfl

/-- An update goes to one place only. -/
theorem scat_lands_inv (idx : IVec S4x8192x8x3 32) (b' : Fin 4) (t' : Fin 8192) (c : Fin 22) (h : scat.resultIdx? (ix3 b t r) idx = some (ix3 b' t' c)) :
    (idx (ix4 b t r 0)).toInt = b'.val ∧ (idx (ix4 b t r 1)).toInt = t'.val ∧ (idx (ix4 b t r 2)).toInt = c.val := by
  unfold ScatterDims.resultIdx? at h
  split at h
  · rename_i hin
    have hs : ∀ a : Fin 3, (idx (ix4 b t r a)).toInt = ((ix3 b' t' c : S4x8192x22.Idx) a).val := fun a => by
      have e : (scat.start (ix3 b t r) idx a + scat.window (ix3 b t r) a).toNat = ((ix3 b' t' c : S4x8192x22.Idx) a).val :=
        congrArg Fin.val (congrFun (Option.some.inj h) a)
      have hp := (hin a).1
      rw [scat_start, scat_window] at e hp
      omega
    exact ⟨hs 0, hs 1, hs 2⟩
  · exact absurd h (by simp)

/-- The eight largest values of each column scattered back to their places, zero elsewhere. -/
def refScatter (x : FVec Ideal S4x8192x22 .f32) : FVec Ideal S4x8192x22 .f32 :=
  Host.scatter scat (fun _ b => b) (broadcastInDim S4x8192x22 ![] bcast_S_S4x8192x22 (constant S_ .f32 0x00000000#32))
    (targets (Host.topK S4x8192x8 2 (FloatOps.cmpfTotal .gt) x sliceFits_S4x8192x22_S4x8192x8).2)
    (Host.topK S4x8192x8 2 (FloatOps.cmpfTotal .gt) x sliceFits_S4x8192x22_S4x8192x8).1

/-- The place a column's `r`-th largest value goes to. -/
theorem refScatter_target (x : FVec Ideal S4x8192x22 .f32) (b : Fin 4) (t : Fin 8192) (r : Fin 8) :
    targets (Host.topK S4x8192x8 2 (FloatOps.cmpfTotal .gt) x sliceFits_S4x8192x22_S4x8192x8).2 (ix4 b t r 2)
      = BitVec.ofNat 32 (order (fun c => x (ix3 b t c)) ⟨r.val, by omega⟩).val :=
  targets_2 b t r (Fin.isLt _) (topK_place x sliceFits_S4x8192x22_S4x8192x8 (by decide) b t r)

/-- At the place of the `r`-th value of the sorted column: that value for one of the first eight, and else zero. -/
theorem refScatter_apply (x : FVec Ideal S4x8192x22 .f32) (b : Fin 4) (t : Fin 8192) (r : Fin 22) :
    refScatter x (ix3 b t (order (fun c => x (ix3 b t c)) r)) = (if r.val < 8 then x (ix3 b t (order (fun c => x (ix3 b t c)) r)) else 0 : EReal) := by
  have inv : ∀ (k : S4x8192x8.Idx), scat.resultIdx? k (targets (Host.topK S4x8192x8 2 (FloatOps.cmpfTotal .gt) x sliceFits_S4x8192x22_S4x8192x8).2)
      = some (ix3 b t (order (fun c => x (ix3 b t c)) r)) → ∃ q : Fin 8, k = ix3 b t q ∧ q.val = r.val := fun k hk => by
    obtain ⟨b', t', q, rfl⟩ : ∃ (b' : Fin 4) (t' : Fin 8192) (q : Fin 8), k = ix3 b' t' q :=
      ⟨k 0, k 1, k 2, funext fun a => by fin_cases a <;> rfl⟩
    obtain ⟨h0, h1, h2⟩ := scat_lands_inv b' t' q _ b t _ hk
    rw [targets_0, toInt_small (by omega)] at h0
    rw [targets_1, toInt_small (by omega)] at h1
    rw [refScatter_target, toInt_small (by omega)] at h2
    obtain rfl : b' = b := Fin.ext (by omega)
    obtain rfl : t' = t := Fin.ext (by omega)
    have e := order_injective _ (Fin.ext (Int.ofNat.inj h2))
    exact ⟨q, rfl, congrArg Fin.val e⟩
  unfold refScatter
  split
  · rename_i hr
    refine Routing.scatter_set_hit _ _ _ _ _ _ (fun k hk => ?_) (ix3 b t ⟨r.val, hr⟩) ?_
    · obtain ⟨q, rfl, hq⟩ := inv k hk
      rw [topK_value x sliceFits_S4x8192x22_S4x8192x8 (by decide) b t q]
      exact congrArg (fun r => x (ix3 b t (order (fun c => x (ix3 b t c)) r))) (Fin.ext hq)
    · refine scat_lands b t ⟨r.val, hr⟩ _ _ ?_ ?_ ?_
      · rw [targets_0, toInt_small (by omega)]
      · rw [targets_1, toInt_small (by omega)]
      · rw [refScatter_target, toInt_small (by omega)]
  · rename_i hr
    refine (Routing.scatter_set_miss _ _ _ _ _ fun k hk => ?_).trans ?_
    · obtain ⟨q, -, hq⟩ := inv k hk
      exact hr (hq ▸ q.isLt)
    · pointwise

/-- The reference's result. -/
def refValue : FVec Ideal S4x22x8192 .f32 :=
  transpose S4x22x8192 [0, 2, 1] (refScatter (refLayers X W1 B1 W2 B2)) transposes_S4x8192x22_S4x22x8192_0_2_1

theorem refValue_apply (b : Fin 4) (c : Fin 22) (t : Fin 8192) :
    refValue X W1 B1 W2 B2 (ix3 b c t) = refScatter (refLayers X W1 B1 W2 B2) (ix3 b t c) := by
  unfold refValue
  pointwise

/-- What the reference's run leaves is `refValue` of its arguments. -/
theorem res_eq (m : (ℓ : Loc nD τ sig) → Buf (Elt Ideal) ℓ) (c : Dev nD) :
    Cert.ReferenceIdeal.Value.res_main_v41 (F := Ideal) m c
      = refValue (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := rfl

end Reference

/-! ## The precondition -/

section Pre

open Cert.Pre_no_tie_decides Cert.Pre_no_tie_decides.Facts

/-- The shape relations the precondition's operations take. -/
theorem preFacts : Cert.Pre_no_tie_decides.Facts := by constructor <;> decide

attribute [local instance] preFacts

variable (X : S4x8192x128.Idx → EReal) (W1 : S64x128.Idx → EReal) (B1 : S64.Idx → EReal) (W2 : S22x64.Idx → EReal) (B2 : S22.Idx → EReal)

/-- The nine largest values of each column. -/
def nine : FVec Ideal S4x8192x9 .f32 :=
  (Host.topK S4x8192x9 2 (FloatOps.cmpfTotal .gt) (refLayers X W1 B1 W2 B2) sliceFits_S4x8192x22_S4x8192x9).1

/-- Whether the ninth value is zero, or each of the nine exceeds the next. -/
def falls (v : FVec Ideal S4x8192x9 .f32) : IVec S4x8192x8 1 :=
  ori (broadcastInDim S4x8192x8 ![0, 1, 2] bcast_S4x8192x1_S4x8192x8_0_1_2
      (cmpf .oeq (extractStridedSlice S4x8192x1 ![0, 0, 8] v slices_S4x8192x9_S4x8192x1_0_0_8) (broadcastInDim S4x8192x1 ![] bcast_S_S4x8192x1 (constant S_ .f32 0x00000000#32))))
    (cmpf .ogt (extractStridedSlice S4x8192x8 ![0, 0, 0] v slices_S4x8192x9_S4x8192x8_0_0_0) (extractStridedSlice S4x8192x8 ![0, 0, 1] v slices_S4x8192x9_S4x8192x8_0_0_1))

theorem pre_eq : Cert.Pre_no_tie_decides.fn (F := Ideal) X W1 B1 W2 B2 = falls (nine X W1 B1 W2 B2) := rfl

theorem falls_apply (v : FVec Ideal S4x8192x9 .f32) (b : Fin 4) (t : Fin 8192) (r : Fin 8) (h : falls v (ix3 b t r) = 1#1) :
    v (ix3 b t 8) = (0 : EReal) ∨ (v (ix3 b t ⟨r.val + 1, by omega⟩) : EReal) < v (ix3 b t ⟨r.val, by omega⟩) := by
  have e : falls v (ix3 b t r) = BitVec.ofBool (decide ((v (ix3 b t 8) : EReal) = 0)) ||| BitVec.ofBool (decide ((v (ix3 b t ⟨r.val + 1, by omega⟩) : EReal) < v (ix3 b t ⟨r.val, by omega⟩))) := by
    have h1 : (⟨1 + r.val, by omega⟩ : Fin 9) = ⟨r.val + 1, by omega⟩ := Fin.ext (Nat.add_comm _ _)
    rw [← h1]
    unfold falls
    pointwise
    rfl
  rw [e] at h
  by_contra hn
  rw [not_or] at hn
  rw [decide_eq_false hn.1, decide_eq_false hn.2] at h
  exact absurd h (by decide)

/-- Where the precondition holds, no tie decides along any column. -/
theorem noTie_of_pre (h : Cert.Pre_no_tie_decides.fn (F := Ideal) X W1 B1 W2 B2 = fun _ => 1#1) (b : Fin 4) (t : Fin 8192) :
    NoTie (perceptron X W1 B1 W2 B2 b t) (order (perceptron X W1 B1 W2 B2 b t)) := fun r => by
  have hc : (fun c => refLayers X W1 B1 W2 B2 (ix3 b t c)) = perceptron X W1 B1 W2 B2 b t := funext fun c => refLayers_apply X W1 B1 W2 B2 b t c
  have hv : ∀ q : Fin 9, nine X W1 B1 W2 B2 (ix3 b t q) = perceptron X W1 B1 W2 B2 b t (order (perceptron X W1 B1 W2 B2 b t) ⟨q.val, by omega⟩) := fun q => by
    unfold nine
    refine (topK_value (refLayers X W1 B1 W2 B2) sliceFits_S4x8192x22_S4x8192x9 (by decide) b t q).trans ?_
    rw [hc, refLayers_apply]
  rw [pre_eq] at h
  have h' := falls_apply (nine X W1 B1 W2 B2) b t r (congrFun h _)
  rw [hv, hv, hv] at h'
  exact h'

end Pre

/-! ## The two agree -/

/-- Where no tie decides, the kernel's result is the reference's. -/
theorem value_eq (X : Cert.KernelIdeal.S4x8192x128.Idx → EReal) (W1 : Cert.KernelIdeal.S64x128.Idx → EReal) (B1 : Cert.KernelIdeal.S64.Idx → EReal)
    (W2 : Cert.KernelIdeal.S22x64.Idx → EReal) (B2 : Cert.KernelIdeal.S22.Idx → EReal)
    (h : haveI := preFacts; Cert.Pre_no_tie_decides.fn (F := Ideal) X W1 B1 W2 B2 = fun _ => 1#1) :
    refValue X W1 B1 W2 B2 = Cert.KernelIdeal.Hand.kernelValue (F := Ideal) W1 B1 W2 B2 X := by
  funext j
  obtain ⟨b, c, t, rfl⟩ : ∃ (b : Fin 4) (c : Fin 22) (t : Fin 8192), j = ix3 b c t :=
    ⟨j 0, j 1, j 2, funext fun a => by fin_cases a <;> rfl⟩
  have hc : (fun c => refLayers X W1 B1 W2 B2 (ix3 b t c)) = perceptron X W1 B1 W2 B2 b t := funext fun c => refLayers_apply X W1 B1 W2 B2 b t c
  obtain ⟨r, rfl⟩ := order_surjective (perceptron X W1 B1 W2 B2 b t) c
  have hs := refScatter_apply (refLayers X W1 B1 W2 B2) b t r
  rw [hc, refLayers_apply] at hs
  rw [refValue_apply, Cert.KernelIdeal.Hand.kernelValue_apply, hs]
  exact (kept_eq (perceptron_nonneg X W1 B1 W2 B2 b t) (order_surjective _) (order_antitone _) (noTie_of_pre X W1 B1 W2 B2 h b t) r).symm

end Cert.Proof

end
-- ==== Proof.lean ====
/- The proof of every claim about the kernel: `claim`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ideal.Run
public import proofs.«01_k».proof.Proof.Frames
public import proofs.«01_k».proof.Proof.Reference
public import Idealize.ShloMosaic.Adequacy
public import Idealize.ShloMosaic.Init

@[expose] public section

noncomputable section

namespace Cert.Proof

open Idealize.ShloMosaic Idealize.SL.Sem Cert.Kernel

/-- From memories agreeing on the arguments, where no tie decides, the kernel and the reference end with equal results. -/
theorem algebraic : letI := Cert.KernelIdeal.Gen.facts; letI := Cert.ReferenceIdeal.Gen.facts; letI := preFacts
    Cert.algebraic_KernelIdeal_ReferenceIdeal_pre_no_tie_decides := by
  intro m g m' g' hpre hargs
  refine ⟨fun c => Cert.KernelIdeal.Hand.value m c, ?_, ?_⟩
  · exact (θ_run _ _ _).mono (fun _ h c => ⟨(h.1 c).2, (h.1 c).1⟩) (Cert.KernelIdeal.Hand.run_value m g)
  · refine (θ_run _ _ _).mono (fun _ h c => ⟨(h c).1.trans ?_, (h c).2⟩) (Cert.ReferenceIdeal.Value.run m' g')
    obtain ⟨h0, h1, h2, h3, h4⟩ := hargs c
    rw [res_eq, h0, h1, h2, h3, h4]
    exact value_eq _ _ _ _ _ (hpre c)

/-- Everything the certificate claims. -/
theorem claim : Cert.Claim := ⟨Cert.Kernel.Gen.facts, Cert.KernelIdeal.Gen.facts, Cert.ReferenceIdeal.Gen.facts, preFacts,
  frame_bits, frame_ideal, fun m g _ => frame_ideal m g trivial, frame_reference, fun m g _ => frame_reference m g trivial, trivial, algebraic⟩

end Cert.Proof

end
